-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 4096]⟩ ⟨2, ![4096, 4096]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 128]⟩ ⟨2, ![4096, 2048]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x4096 : Shape := ⟨2, ![256, 4096]⟩
abbrev S4096x2048 : Shape := ⟨2, ![4096, 2048]⟩
abbrev S4096x128 : Shape := ⟨2, ![4096, 128]⟩
abbrev S16x256x128 : Shape := ⟨3, ![16, 256, 128]⟩
abbrev S_ : Shape := ⟨0, ![]⟩
abbrev S8 : Shape := ⟨1, ![8]⟩
abbrev S16 : Shape := ⟨1, ![16]⟩
abbrev S1 : Shape := ⟨1, ![1]⟩
abbrev S4096x256 : Shape := ⟨2, ![4096, 256]⟩
abbrev S256x256 : Shape := ⟨2, ![256, 256]⟩
abbrev S256x128 : Shape := ⟨2, ![256, 128]⟩
abbrev S1x256x128 : Shape := ⟨3, ![1, 256, 128]⟩

abbrev nBuf : Space → Nat
  | .hbm => 3
  | .vmem => 5
  | .smem => 0
  | _ => 0

abbrev bufTy : (tb : Table) → Fin (tcTables nBuf tb) → BufTy
  | .hbm, ⟨0, _⟩ => ⟨S256x4096, .f32⟩
  | .hbm, ⟨1, _⟩ => ⟨S4096x2048, .f32⟩
  | .hbm, ⟨2, _⟩ => ⟨S4096x128, .f32⟩
  | .local _ .vmem, ⟨0, _⟩ => ⟨S4096x128, .f32⟩
  | .local _ .vmem, ⟨1, _⟩ => ⟨S256x4096, .f32⟩
  | .local _ .vmem, ⟨2, _⟩ => ⟨S4096x2048, .f32⟩
  | .local _ .vmem, ⟨3, _⟩ => ⟨S16x256x128, .bf16⟩
  | .local _ .vmem, ⟨4, _⟩ => ⟨S16x256x128, .bf16⟩
  | _, _ => ⟨S256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => true
  | _ => false

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 1 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_sem0_0 : DmaSem sig := 0

abbrev nD : Nat := 16
abbrev τ : Topo := Topo.v7x

variable {F : FTy → Type} [FloatOps F]

abbrev grid0 : Pipeline.Grid := .none

def k0_dev1 (d0 : Dev nD) : Nat :=
  let c0_i32_21 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_11 : BitVec 32 := 1#32
  let v15 : BitVec 32 := Scalar.addi v2 c1_i32_11
  let c16_i32_12 : BitVec 32 := 16#32
  let c0_i32_13 : BitVec 32 := 0#32
  let v16 : BitVec 1 := Scalar.cmpi .eq c16_i32_12 c0_i32_13
  let c1_i32_14 : BitVec 32 := 1#32
  let v17 : BitVec 32 := Scalar.select v16 c1_i32_14 c16_i32_12
  let v18 : BitVec 32 := Scalar.remsi v15 v17
  let c0_i32_16 : BitVec 32 := 0#32
  let v20 : BitVec 1 := Scalar.cmpi .slt v18 c0_i32_16
  let c0_i32_17 : BitVec 32 := 0#32
  let v21 : BitVec 1 := Scalar.cmpi .slt v17 c0_i32_17
  let v22 : BitVec 1 := Scalar.xori v20 v21
  let c0_i32_15 : BitVec 32 := 0#32
  let v19 : BitVec 1 := Scalar.cmpi .ne v18 c0_i32_15
  let v23 : BitVec 1 := Scalar.andi v22 v19
  let v24 : BitVec 32 := Scalar.addi v18 v17
  let v25 : BitVec 32 := Scalar.select v23 v24 v18
  let c1_i32_20 : BitVec 32 := 1#32
  let v28 : BitVec 32 := Scalar.muli v25 c1_i32_20
  let v29 : BitVec 32 := Scalar.addi c0_i32_21 v28
  v29.toNat
def k0_dev2 (d0 : Dev nD) : Nat :=
  let c0_i32_32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_22 : BitVec 32 := 2#32
  let v30 : BitVec 32 := Scalar.addi v2 c2_i32_22
  let c16_i32_23 : BitVec 32 := 16#32
  let c0_i32_24 : BitVec 32 := 0#32
  let v31 : BitVec 1 := Scalar.cmpi .eq c16_i32_23 c0_i32_24
  let c1_i32_25 : BitVec 32 := 1#32
  let v32 : BitVec 32 := Scalar.select v31 c1_i32_25 c16_i32_23
  let v33 : BitVec 32 := Scalar.remsi v30 v32
  let c0_i32_27 : BitVec 32 := 0#32
  let v35 : BitVec 1 := Scalar.cmpi .slt v33 c0_i32_27
  let c0_i32_28 : BitVec 32 := 0#32
  let v36 : BitVec 1 := Scalar.cmpi .slt v32 c0_i32_28
  let v37 : BitVec 1 := Scalar.xori v35 v36
  let c0_i32_26 : BitVec 32 := 0#32
  let v34 : BitVec 1 := Scalar.cmpi .ne v33 c0_i32_26
  let v38 : BitVec 1 := Scalar.andi v37 v34
  let v39 : BitVec 32 := Scalar.addi v33 v32
  let v40 : BitVec 32 := Scalar.select v38 v39 v33
  let c1_i32_31 : BitVec 32 := 1#32
  let v43 : BitVec 32 := Scalar.muli v40 c1_i32_31
  let v44 : BitVec 32 := Scalar.addi c0_i32_32 v43
  v44.toNat
def k0_dev3 (d0 : Dev nD) : Nat :=
  let c0_i32_42 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v45 : BitVec 32 := Scalar.addi v2 c3_i32
  let c16_i32_33 : BitVec 32 := 16#32
  let c0_i32_34 : BitVec 32 := 0#32
  let v46 : BitVec 1 := Scalar.cmpi .eq c16_i32_33 c0_i32_34
  let c1_i32_35 : BitVec 32 := 1#32
  let v47 : BitVec 32 := Scalar.select v46 c1_i32_35 c16_i32_33
  let v48 : BitVec 32 := Scalar.remsi v45 v47
  let c0_i32_37 : BitVec 32 := 0#32
  let v50 : BitVec 1 := Scalar.cmpi .slt v48 c0_i32_37
  let c0_i32_38 : BitVec 32 := 0#32
  let v51 : BitVec 1 := Scalar.cmpi .slt v47 c0_i32_38
  let v52 : BitVec 1 := Scalar.xori v50 v51
  let c0_i32_36 : BitVec 32 := 0#32
  let v49 : BitVec 1 := Scalar.cmpi .ne v48 c0_i32_36
  let v53 : BitVec 1 := Scalar.andi v52 v49
  let v54 : BitVec 32 := Scalar.addi v48 v47
  let v55 : BitVec 32 := Scalar.select v53 v54 v48
  let c1_i32_41 : BitVec 32 := 1#32
  let v58 : BitVec 32 := Scalar.muli v55 c1_i32_41
  let v59 : BitVec 32 := Scalar.addi c0_i32_42 v58
  v59.toNat
def k0_dev4 (d0 : Dev nD) : Nat :=
  let c0_i32_52 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v60 : BitVec 32 := Scalar.addi v2 c4_i32
  let c16_i32_43 : BitVec 32 := 16#32
  let c0_i32_44 : BitVec 32 := 0#32
  let v61 : BitVec 1 := Scalar.cmpi .eq c16_i32_43 c0_i32_44
  let c1_i32_45 : BitVec 32 := 1#32
  let v62 : BitVec 32 := Scalar.select v61 c1_i32_45 c16_i32_43
  let v63 : BitVec 32 := Scalar.remsi v60 v62
  let c0_i32_47 : BitVec 32 := 0#32
  let v65 : BitVec 1 := Scalar.cmpi .slt v63 c0_i32_47
  let c0_i32_48 : BitVec 32 := 0#32
  let v66 : BitVec 1 := Scalar.cmpi .slt v62 c0_i32_48
  let v67 : BitVec 1 := Scalar.xori v65 v66
  let c0_i32_46 : BitVec 32 := 0#32
  let v64 : BitVec 1 := Scalar.cmpi .ne v63 c0_i32_46
  let v68 : BitVec 1 := Scalar.andi v67 v64
  let v69 : BitVec 32 := Scalar.addi v63 v62
  let v70 : BitVec 32 := Scalar.select v68 v69 v63
  let c1_i32_51 : BitVec 32 := 1#32
  let v73 : BitVec 32 := Scalar.muli v70 c1_i32_51
  let v74 : BitVec 32 := Scalar.addi c0_i32_52 v73
  v74.toNat
def k0_dev5 (d0 : Dev nD) : Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v75 : BitVec 32 := Scalar.addi v2 c5_i32
  let c16_i32_53 : BitVec 32 := 16#32
  let c0_i32_54 : BitVec 32 := 0#32
  let v76 : BitVec 1 := Scalar.cmpi .eq c16_i32_53 c0_i32_54
  let c1_i32_55 : BitVec 32 := 1#32
  let v77 : BitVec 32 := Scalar.select v76 c1_i32_55 c16_i32_53
  let v78 : BitVec 32 := Scalar.remsi v75 v77
  let c0_i32_57 : BitVec 32 := 0#32
  let v80 : BitVec 1 := Scalar.cmpi .slt v78 c0_i32_57
  let c0_i32_58 : BitVec 32 := 0#32
  let v81 : BitVec 1 := Scalar.cmpi .slt v77 c0_i32_58
  let v82 : BitVec 1 := Scalar.xori v80 v81
  let c0_i32_56 : BitVec 32 := 0#32
  let v79 : BitVec 1 := Scalar.cmpi .ne v78 c0_i32_56
  let v83 : BitVec 1 := Scalar.andi v82 v79
  let v84 : BitVec 32 := Scalar.addi v78 v77
  let v85 : BitVec 32 := Scalar.select v83 v84 v78
  let c1_i32_61 : BitVec 32 := 1#32
  let v88 : BitVec 32 := Scalar.muli v85 c1_i32_61
  let v89 : BitVec 32 := Scalar.addi c0_i32_62 v88
  v89.toNat
def k0_dev6 (d0 : Dev nD) : Nat :=
  let c0_i32_72 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v90 : BitVec 32 := Scalar.addi v2 c6_i32
  let c16_i32_63 : BitVec 32 := 16#32
  let c0_i32_64 : BitVec 32 := 0#32
  let v91 : BitVec 1 := Scalar.cmpi .eq c16_i32_63 c0_i32_64
  let c1_i32_65 : BitVec 32 := 1#32
  let v92 : BitVec 32 := Scalar.select v91 c1_i32_65 c16_i32_63
  let v93 : BitVec 32 := Scalar.remsi v90 v92
  let c0_i32_67 : BitVec 32 := 0#32
  let v95 : BitVec 1 := Scalar.cmpi .slt v93 c0_i32_67
  let c0_i32_68 : BitVec 32 := 0#32
  let v96 : BitVec 1 := Scalar.cmpi .slt v92 c0_i32_68
  let v97 : BitVec 1 := Scalar.xori v95 v96
  let c0_i32_66 : BitVec 32 := 0#32
  let v94 : BitVec 1 := Scalar.cmpi .ne v93 c0_i32_66
  let v98 : BitVec 1 := Scalar.andi v97 v94
  let v99 : BitVec 32 := Scalar.addi v93 v92
  let v100 : BitVec 32 := Scalar.select v98 v99 v93
  let c1_i32_71 : BitVec 32 := 1#32
  let v103 : BitVec 32 := Scalar.muli v100 c1_i32_71
  let v104 : BitVec 32 := Scalar.addi c0_i32_72 v103
  v104.toNat
def k0_dev7 (d0 : Dev nD) : Nat :=
  let c0_i32_82 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v105 : BitVec 32 := Scalar.addi v2 c7_i32
  let c16_i32_73 : BitVec 32 := 16#32
  let c0_i32_74 : BitVec 32 := 0#32
  let v106 : BitVec 1 := Scalar.cmpi .eq c16_i32_73 c0_i32_74
  let c1_i32_75 : BitVec 32 := 1#32
  let v107 : BitVec 32 := Scalar.select v106 c1_i32_75 c16_i32_73
  let v108 : BitVec 32 := Scalar.remsi v105 v107
  let c0_i32_77 : BitVec 32 := 0#32
  let v110 : BitVec 1 := Scalar.cmpi .slt v108 c0_i32_77
  let c0_i32_78 : BitVec 32 := 0#32
  let v111 : BitVec 1 := Scalar.cmpi .slt v107 c0_i32_78
  let v112 : BitVec 1 := Scalar.xori v110 v111
  let c0_i32_76 : BitVec 32 := 0#32
  let v109 : BitVec 1 := Scalar.cmpi .ne v108 c0_i32_76
  let v113 : BitVec 1 := Scalar.andi v112 v109
  let v114 : BitVec 32 := Scalar.addi v108 v107
  let v115 : BitVec 32 := Scalar.select v113 v114 v108
  let c1_i32_81 : BitVec 32 := 1#32
  let v118 : BitVec 32 := Scalar.muli v115 c1_i32_81
  let v119 : BitVec 32 := Scalar.addi c0_i32_82 v118
  v119.toNat
def k0_dev8 (d0 : Dev nD) : Nat :=
  let c0_i32_92 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v120 : BitVec 32 := Scalar.addi v2 c8_i32
  let c16_i32_83 : BitVec 32 := 16#32
  let c0_i32_84 : BitVec 32 := 0#32
  let v121 : BitVec 1 := Scalar.cmpi .eq c16_i32_83 c0_i32_84
  let c1_i32_85 : BitVec 32 := 1#32
  let v122 : BitVec 32 := Scalar.select v121 c1_i32_85 c16_i32_83
  let v123 : BitVec 32 := Scalar.remsi v120 v122
  let c0_i32_87 : BitVec 32 := 0#32
  let v125 : BitVec 1 := Scalar.cmpi .slt v123 c0_i32_87
  let c0_i32_88 : BitVec 32 := 0#32
  let v126 : BitVec 1 := Scalar.cmpi .slt v122 c0_i32_88
  let v127 : BitVec 1 := Scalar.xori v125 v126
  let c0_i32_86 : BitVec 32 := 0#32
  let v124 : BitVec 1 := Scalar.cmpi .ne v123 c0_i32_86
  let v128 : BitVec 1 := Scalar.andi v127 v124
  let v129 : BitVec 32 := Scalar.addi v123 v122
  let v130 : BitVec 32 := Scalar.select v128 v129 v123
  let c1_i32_91 : BitVec 32 := 1#32
  let v133 : BitVec 32 := Scalar.muli v130 c1_i32_91
  let v134 : BitVec 32 := Scalar.addi c0_i32_92 v133
  v134.toNat
def k0_dev9 (d0 : Dev nD) : Nat :=
  let c0_i32_102 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v135 : BitVec 32 := Scalar.addi v2 c9_i32
  let c16_i32_93 : BitVec 32 := 16#32
  let c0_i32_94 : BitVec 32 := 0#32
  let v136 : BitVec 1 := Scalar.cmpi .eq c16_i32_93 c0_i32_94
  let c1_i32_95 : BitVec 32 := 1#32
  let v137 : BitVec 32 := Scalar.select v136 c1_i32_95 c16_i32_93
  let v138 : BitVec 32 := Scalar.remsi v135 v137
  let c0_i32_97 : BitVec 32 := 0#32
  let v140 : BitVec 1 := Scalar.cmpi .slt v138 c0_i32_97
  let c0_i32_98 : BitVec 32 := 0#32
  let v141 : BitVec 1 := Scalar.cmpi .slt v137 c0_i32_98
  let v142 : BitVec 1 := Scalar.xori v140 v141
  let c0_i32_96 : BitVec 32 := 0#32
  let v139 : BitVec 1 := Scalar.cmpi .ne v138 c0_i32_96
  let v143 : BitVec 1 := Scalar.andi v142 v139
  let v144 : BitVec 32 := Scalar.addi v138 v137
  let v145 : BitVec 32 := Scalar.select v143 v144 v138
  let c1_i32_101 : BitVec 32 := 1#32
  let v148 : BitVec 32 := Scalar.muli v145 c1_i32_101
  let v149 : BitVec 32 := Scalar.addi c0_i32_102 v148
  v149.toNat
def k0_dev10 (d0 : Dev nD) : Nat :=
  let c0_i32_112 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v150 : BitVec 32 := Scalar.addi v2 c10_i32
  let c16_i32_103 : BitVec 32 := 16#32
  let c0_i32_104 : BitVec 32 := 0#32
  let v151 : BitVec 1 := Scalar.cmpi .eq c16_i32_103 c0_i32_104
  let c1_i32_105 : BitVec 32 := 1#32
  let v152 : BitVec 32 := Scalar.select v151 c1_i32_105 c16_i32_103
  let v153 : BitVec 32 := Scalar.remsi v150 v152
  let c0_i32_107 : BitVec 32 := 0#32
  let v155 : BitVec 1 := Scalar.cmpi .slt v153 c0_i32_107
  let c0_i32_108 : BitVec 32 := 0#32
  let v156 : BitVec 1 := Scalar.cmpi .slt v152 c0_i32_108
  let v157 : BitVec 1 := Scalar.xori v155 v156
  let c0_i32_106 : BitVec 32 := 0#32
  let v154 : BitVec 1 := Scalar.cmpi .ne v153 c0_i32_106
  let v158 : BitVec 1 := Scalar.andi v157 v154
  let v159 : BitVec 32 := Scalar.addi v153 v152
  let v160 : BitVec 32 := Scalar.select v158 v159 v153
  let c1_i32_111 : BitVec 32 := 1#32
  let v163 : BitVec 32 := Scalar.muli v160 c1_i32_111
  let v164 : BitVec 32 := Scalar.addi c0_i32_112 v163
  v164.toNat
def k0_dev11 (d0 : Dev nD) : Nat :=
  let c0_i32_122 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v165 : BitVec 32 := Scalar.addi v2 c11_i32
  let c16_i32_113 : BitVec 32 := 16#32
  let c0_i32_114 : BitVec 32 := 0#32
  let v166 : BitVec 1 := Scalar.cmpi .eq c16_i32_113 c0_i32_114
  let c1_i32_115 : BitVec 32 := 1#32
  let v167 : BitVec 32 := Scalar.select v166 c1_i32_115 c16_i32_113
  let v168 : BitVec 32 := Scalar.remsi v165 v167
  let c0_i32_117 : BitVec 32 := 0#32
  let v170 : BitVec 1 := Scalar.cmpi .slt v168 c0_i32_117
  let c0_i32_118 : BitVec 32 := 0#32
  let v171 : BitVec 1 := Scalar.cmpi .slt v167 c0_i32_118
  let v172 : BitVec 1 := Scalar.xori v170 v171
  let c0_i32_116 : BitVec 32 := 0#32
  let v169 : BitVec 1 := Scalar.cmpi .ne v168 c0_i32_116
  let v173 : BitVec 1 := Scalar.andi v172 v169
  let v174 : BitVec 32 := Scalar.addi v168 v167
  let v175 : BitVec 32 := Scalar.select v173 v174 v168
  let c1_i32_121 : BitVec 32 := 1#32
  let v178 : BitVec 32 := Scalar.muli v175 c1_i32_121
  let v179 : BitVec 32 := Scalar.addi c0_i32_122 v178
  v179.toNat
def k0_dev12 (d0 : Dev nD) : Nat :=
  let c0_i32_132 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v180 : BitVec 32 := Scalar.addi v2 c12_i32
  let c16_i32_123 : BitVec 32 := 16#32
  let c0_i32_124 : BitVec 32 := 0#32
  let v181 : BitVec 1 := Scalar.cmpi .eq c16_i32_123 c0_i32_124
  let c1_i32_125 : BitVec 32 := 1#32
  let v182 : BitVec 32 := Scalar.select v181 c1_i32_125 c16_i32_123
  let v183 : BitVec 32 := Scalar.remsi v180 v182
  let c0_i32_127 : BitVec 32 := 0#32
  let v185 : BitVec 1 := Scalar.cmpi .slt v183 c0_i32_127
  let c0_i32_128 : BitVec 32 := 0#32
  let v186 : BitVec 1 := Scalar.cmpi .slt v182 c0_i32_128
  let v187 : BitVec 1 := Scalar.xori v185 v186
  let c0_i32_126 : BitVec 32 := 0#32
  let v184 : BitVec 1 := Scalar.cmpi .ne v183 c0_i32_126
  let v188 : BitVec 1 := Scalar.andi v187 v184
  let v189 : BitVec 32 := Scalar.addi v183 v182
  let v190 : BitVec 32 := Scalar.select v188 v189 v183
  let c1_i32_131 : BitVec 32 := 1#32
  let v193 : BitVec 32 := Scalar.muli v190 c1_i32_131
  let v194 : BitVec 32 := Scalar.addi c0_i32_132 v193
  v194.toNat
def k0_dev13 (d0 : Dev nD) : Nat :=
  let c0_i32_142 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v195 : BitVec 32 := Scalar.addi v2 c13_i32
  let c16_i32_133 : BitVec 32 := 16#32
  let c0_i32_134 : BitVec 32 := 0#32
  let v196 : BitVec 1 := Scalar.cmpi .eq c16_i32_133 c0_i32_134
  let c1_i32_135 : BitVec 32 := 1#32
  let v197 : BitVec 32 := Scalar.select v196 c1_i32_135 c16_i32_133
  let v198 : BitVec 32 := Scalar.remsi v195 v197
  let c0_i32_137 : BitVec 32 := 0#32
  let v200 : BitVec 1 := Scalar.cmpi .slt v198 c0_i32_137
  let c0_i32_138 : BitVec 32 := 0#32
  let v201 : BitVec 1 := Scalar.cmpi .slt v197 c0_i32_138
  let v202 : BitVec 1 := Scalar.xori v200 v201
  let c0_i32_136 : BitVec 32 := 0#32
  let v199 : BitVec 1 := Scalar.cmpi .ne v198 c0_i32_136
  let v203 : BitVec 1 := Scalar.andi v202 v199
  let v204 : BitVec 32 := Scalar.addi v198 v197
  let v205 : BitVec 32 := Scalar.select v203 v204 v198
  let c1_i32_141 : BitVec 32 := 1#32
  let v208 : BitVec 32 := Scalar.muli v205 c1_i32_141
  let v209 : BitVec 32 := Scalar.addi c0_i32_142 v208
  v209.toNat
def k0_dev14 (d0 : Dev nD) : Nat :=
  let c0_i32_152 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v210 : BitVec 32 := Scalar.addi v2 c14_i32
  let c16_i32_143 : BitVec 32 := 16#32
  let c0_i32_144 : BitVec 32 := 0#32
  let v211 : BitVec 1 := Scalar.cmpi .eq c16_i32_143 c0_i32_144
  let c1_i32_145 : BitVec 32 := 1#32
  let v212 : BitVec 32 := Scalar.select v211 c1_i32_145 c16_i32_143
  let v213 : BitVec 32 := Scalar.remsi v210 v212
  let c0_i32_147 : BitVec 32 := 0#32
  let v215 : BitVec 1 := Scalar.cmpi .slt v213 c0_i32_147
  let c0_i32_148 : BitVec 32 := 0#32
  let v216 : BitVec 1 := Scalar.cmpi .slt v212 c0_i32_148
  let v217 : BitVec 1 := Scalar.xori v215 v216
  let c0_i32_146 : BitVec 32 := 0#32
  let v214 : BitVec 1 := Scalar.cmpi .ne v213 c0_i32_146
  let v218 : BitVec 1 := Scalar.andi v217 v214
  let v219 : BitVec 32 := Scalar.addi v213 v212
  let v220 : BitVec 32 := Scalar.select v218 v219 v213
  let c1_i32_151 : BitVec 32 := 1#32
  let v223 : BitVec 32 := Scalar.muli v220 c1_i32_151
  let v224 : BitVec 32 := Scalar.addi c0_i32_152 v223
  v224.toNat
def k0_dev15 (d0 : Dev nD) : Nat :=
  let c0_i32_162 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v225 : BitVec 32 := Scalar.addi v2 c15_i32
  let c16_i32_153 : BitVec 32 := 16#32
  let c0_i32_154 : BitVec 32 := 0#32
  let v226 : BitVec 1 := Scalar.cmpi .eq c16_i32_153 c0_i32_154
  let c1_i32_155 : BitVec 32 := 1#32
  let v227 : BitVec 32 := Scalar.select v226 c1_i32_155 c16_i32_153
  let v228 : BitVec 32 := Scalar.remsi v225 v227
  let c0_i32_157 : BitVec 32 := 0#32
  let v230 : BitVec 1 := Scalar.cmpi .slt v228 c0_i32_157
  let c0_i32_158 : BitVec 32 := 0#32
  let v231 : BitVec 1 := Scalar.cmpi .slt v227 c0_i32_158
  let v232 : BitVec 1 := Scalar.xori v230 v231
  let c0_i32_156 : BitVec 32 := 0#32
  let v229 : BitVec 1 := Scalar.cmpi .ne v228 c0_i32_156
  let v233 : BitVec 1 := Scalar.andi v232 v229
  let v234 : BitVec 32 := Scalar.addi v228 v227
  let v235 : BitVec 32 := Scalar.select v233 v234 v228
  let c1_i32_161 : BitVec 32 := 1#32
  let v238 : BitVec 32 := Scalar.muli v235 c1_i32_161
  let v239 : BitVec 32 := Scalar.addi c0_i32_162 v238
  v239.toNat
def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_181 : BitVec 32 := 0#32
  let v262 : BitVec 1 := Scalar.cmpi .ne v2 c0_i32_181
  let v263 : BitVec 32 := Scalar.extui v262
  let c0_i32_182 : BitVec 32 := 0#32
  let v264 : BitVec 1 := Scalar.cmpi .ne v263 c0_i32_182
  v264

def k0_off1 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_551 : BitVec 32 := 0#32
  let c0_i32_552 : BitVec 32 := 0#32
  ![v2.toNat, 0, 0]
def k0_dev16 : Nat :=
  let c0_i32_550 : BitVec 32 := 0#32
  let c0_i32_548 : BitVec 32 := 0#32
  let c1_i32_549 : BitVec 32 := 1#32
  let v698 : BitVec 32 := Scalar.muli c0_i32_548 c1_i32_549
  let v699 : BitVec 32 := Scalar.addi c0_i32_550 v698
  v699.toNat
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_183 : BitVec 32 := 0#32
  let v265 : BitVec 1 := Scalar.cmpi .eq v2 c0_i32_183
  let v266 : BitVec 32 := Scalar.extui v265
  let c0_i32_184 : BitVec 32 := 0#32
  let v267 : BitVec 1 := Scalar.cmpi .ne v266 c0_i32_184
  v267

def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_546 : BitVec 32 := 256#32
  let v698 : BitVec 32 := Scalar.muli v2 c256_i32_546
  let v699 : Index := Scalar.indexCast v698
  let c0_547 : Index := 0#32
  ![v699.toNat, 0]
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_187 : BitVec 32 := 1#32
  let v273 : BitVec 1 := Scalar.cmpi .ne v2 c1_i32_187
  let v274 : BitVec 32 := Scalar.extui v273
  let c0_i32_188 : BitVec 32 := 0#32
  let v275 : BitVec 1 := Scalar.cmpi .ne v274 c0_i32_188
  v275

def k0_off3 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_551 : BitVec 32 := 0#32
  let c0_i32_552 : BitVec 32 := 0#32
  ![v2.toNat, 0, 0]
def k0_dev17 : Nat :=
  let c0_i32_550 : BitVec 32 := 0#32
  let c1_i32_548 : BitVec 32 := 1#32
  let c1_i32_549 : BitVec 32 := 1#32
  let v698 : BitVec 32 := Scalar.muli c1_i32_548 c1_i32_549
  let v699 : BitVec 32 := Scalar.addi c0_i32_550 v698
  v699.toNat
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_189 : BitVec 32 := 1#32
  let v276 : BitVec 1 := Scalar.cmpi .eq v2 c1_i32_189
  let v277 : BitVec 32 := Scalar.extui v276
  let c0_i32_190 : BitVec 32 := 0#32
  let v278 : BitVec 1 := Scalar.cmpi .ne v277 c0_i32_190
  v278

def k0_off4 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_546 : BitVec 32 := 256#32
  let v698 : BitVec 32 := Scalar.muli v2 c256_i32_546
  let v699 : Index := Scalar.indexCast v698
  let c0_547 : Index := 0#32
  ![v699.toNat, 0]
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_205 : BitVec 32 := 2#32
  let v297 : BitVec 1 := Scalar.cmpi .ne v2 c2_i32_205
  let v298 : BitVec 32 := Scalar.extui v297
  let c0_i32_206 : BitVec 32 := 0#32
  let v299 : BitVec 1 := Scalar.cmpi .ne v298 c0_i32_206
  v299

def k0_off5 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_551 : BitVec 32 := 0#32
  let c0_i32_552 : BitVec 32 := 0#32
  ![v2.toNat, 0, 0]
def k0_dev18 : Nat :=
  let c0_i32_550 : BitVec 32 := 0#32
  let c2_i32_548 : BitVec 32 := 2#32
  let c1_i32_549 : BitVec 32 := 1#32
  let v698 : BitVec 32 := Scalar.muli c2_i32_548 c1_i32_549
  let v699 : BitVec 32 := Scalar.addi c0_i32_550 v698
  v699.toNat
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_207 : BitVec 32 := 2#32
  let v300 : BitVec 1 := Scalar.cmpi .eq v2 c2_i32_207
  let v301 : BitVec 32 := Scalar.extui v300
  let c0_i32_208 : BitVec 32 := 0#32
  let v302 : BitVec 1 := Scalar.cmpi .ne v301 c0_i32_208
  v302

def k0_off6 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_546 : BitVec 32 := 256#32
  let v698 : BitVec 32 := Scalar.muli v2 c256_i32_546
  let v699 : Index := Scalar.indexCast v698
  let c0_547 : Index := 0#32
  ![v699.toNat, 0]
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_211 : BitVec 32 := 3#32
  let v308 : BitVec 1 := Scalar.cmpi .ne v2 c3_i32_211
  let v309 : BitVec 32 := Scalar.extui v308
  let c0_i32_212 : BitVec 32 := 0#32
  let v310 : BitVec 1 := Scalar.cmpi .ne v309 c0_i32_212
  v310

def k0_off7 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_551 : BitVec 32 := 0#32
  let c0_i32_552 : BitVec 32 := 0#32
  ![v2.toNat, 0, 0]
def k0_dev19 : Nat :=
  let c0_i32_550 : BitVec 32 := 0#32
  let c3_i32_548 : BitVec 32 := 3#32
  let c1_i32_549 : BitVec 32 := 1#32
  let v698 : BitVec 32 := Scalar.muli c3_i32_548 c1_i32_549
  let v699 : BitVec 32 := Scalar.addi c0_i32_550 v698
  v699.toNat
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_213 : BitVec 32 := 3#32
  let v311 : BitVec 1 := Scalar.cmpi .eq v2 c3_i32_213
  let v312 : BitVec 32 := Scalar.extui v311
  let c0_i32_214 : BitVec 32 := 0#32
  let v313 : BitVec 1 := Scalar.cmpi .ne v312 c0_i32_214
  v313

def k0_off8 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_546 : BitVec 32 := 256#32
  let v698 : BitVec 32 := Scalar.muli v2 c256_i32_546
  let v699 : Index := Scalar.indexCast v698
  let c0_547 : Index := 0#32
  ![v699.toNat, 0]
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_229 : BitVec 32 := 4#32
  let v332 : BitVec 1 := Scalar.cmpi .ne v2 c4_i32_229
  let v333 : BitVec 32 := Scalar.extui v332
  let c0_i32_230 : BitVec 32 := 0#32
  let v334 : BitVec 1 := Scalar.cmpi .ne v333 c0_i32_230
  v334

def k0_off9 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_551 : BitVec 32 := 0#32
  let c0_i32_552 : BitVec 32 := 0#32
  ![v2.toNat, 0, 0]
def k0_dev20 : Nat :=
  let c0_i32_550 : BitVec 32 := 0#32
  let c4_i32_548 : BitVec 32 := 4#32
  let c1_i32_549 : BitVec 32 := 1#32
  let v698 : BitVec 32 := Scalar.muli c4_i32_548 c1_i32_549
  let v699 : BitVec 32 := Scalar.addi c0_i32_550 v698
  v699.toNat
def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_231 : BitVec 32 := 4#32
  let v335 : BitVec 1 := Scalar.cmpi .eq v2 c4_i32_231
  let v336 : BitVec 32 := Scalar.extui v335
  let c0_i32_232 : BitVec 32 := 0#32
  let v337 : BitVec 1 := Scalar.cmpi .ne v336 c0_i32_232
  v337

def k0_off10 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_546 : BitVec 32 := 256#32
  let v698 : BitVec 32 := Scalar.muli v2 c256_i32_546
  let v699 : Index := Scalar.indexCast v698
  let c0_547 : Index := 0#32
  ![v699.toNat, 0]
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_235 : BitVec 32 := 5#32
  let v343 : BitVec 1 := Scalar.cmpi .ne v2 c5_i32_235
  let v344 : BitVec 32 := Scalar.extui v343
  let c0_i32_236 : BitVec 32 := 0#32
  let v345 : BitVec 1 := Scalar.cmpi .ne v344 c0_i32_236
  v345

def k0_off11 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_551 : BitVec 32 := 0#32
  let c0_i32_552 : BitVec 32 := 0#32
  ![v2.toNat, 0, 0]
def k0_dev21 : Nat :=
  let c0_i32_550 : BitVec 32 := 0#32
  let c5_i32_548 : BitVec 32 := 5#32
  let c1_i32_549 : BitVec 32 := 1#32
  let v698 : BitVec 32 := Scalar.muli c5_i32_548 c1_i32_549
  let v699 : BitVec 32 := Scalar.addi c0_i32_550 v698
  v699.toNat
def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_237 : BitVec 32 := 5#32
  let v346 : BitVec 1 := Scalar.cmpi .eq v2 c5_i32_237
  let v347 : BitVec 32 := Scalar.extui v346
  let c0_i32_238 : BitVec 32 := 0#32
  let v348 : BitVec 1 := Scalar.cmpi .ne v347 c0_i32_238
  v348

def k0_off12 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_546 : BitVec 32 := 256#32
  let v698 : BitVec 32 := Scalar.muli v2 c256_i32_546
  let v699 : Index := Scalar.indexCast v698
  let c0_547 : Index := 0#32
  ![v699.toNat, 0]
def k0_cond13 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_253 : BitVec 32 := 6#32
  let v367 : BitVec 1 := Scalar.cmpi .ne v2 c6_i32_253
  let v368 : BitVec 32 := Scalar.extui v367
  let c0_i32_254 : BitVec 32 := 0#32
  let v369 : BitVec 1 := Scalar.cmpi .ne v368 c0_i32_254
  v369

def k0_off13 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_551 : BitVec 32 := 0#32
  let c0_i32_552 : BitVec 32 := 0#32
  ![v2.toNat, 0, 0]
def k0_dev22 : Nat :=
  let c0_i32_550 : BitVec 32 := 0#32
  let c6_i32_548 : BitVec 32 := 6#32
  let c1_i32_549 : BitVec 32 := 1#32
  let v698 : BitVec 32 := Scalar.muli c6_i32_548 c1_i32_549
  let v699 : BitVec 32 := Scalar.addi c0_i32_550 v698
  v699.toNat
def k0_cond14 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_255 : BitVec 32 := 6#32
  let v370 : BitVec 1 := Scalar.cmpi .eq v2 c6_i32_255
  let v371 : BitVec 32 := Scalar.extui v370
  let c0_i32_256 : BitVec 32 := 0#32
  let v372 : BitVec 1 := Scalar.cmpi .ne v371 c0_i32_256
  v372

def k0_off14 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_546 : BitVec 32 := 256#32
  let v698 : BitVec 32 := Scalar.muli v2 c256_i32_546
  let v699 : Index := Scalar.indexCast v698
  let c0_547 : Index := 0#32
  ![v699.toNat, 0]
def k0_cond15 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_259 : BitVec 32 := 7#32
  let v378 : BitVec 1 := Scalar.cmpi .ne v2 c7_i32_259
  let v379 : BitVec 32 := Scalar.extui v378
  let c0_i32_260 : BitVec 32 := 0#32
  let v380 : BitVec 1 := Scalar.cmpi .ne v379 c0_i32_260
  v380

def k0_off15 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_551 : BitVec 32 := 0#32
  let c0_i32_552 : BitVec 32 := 0#32
  ![v2.toNat, 0, 0]
def k0_dev23 : Nat :=
  let c0_i32_550 : BitVec 32 := 0#32
  let c7_i32_548 : BitVec 32 := 7#32
  let c1_i32_549 : BitVec 32 := 1#32
  let v698 : BitVec 32 := Scalar.muli c7_i32_548 c1_i32_549
  let v699 : BitVec 32 := Scalar.addi c0_i32_550 v698
  v699.toNat
def k0_cond16 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_261 : BitVec 32 := 7#32
  let v381 : BitVec 1 := Scalar.cmpi .eq v2 c7_i32_261
  let v382 : BitVec 32 := Scalar.extui v381
  let c0_i32_262 : BitVec 32 := 0#32
  let v383 : BitVec 1 := Scalar.cmpi .ne v382 c0_i32_262
  v383

def k0_off16 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_546 : BitVec 32 := 256#32
  let v698 : BitVec 32 := Scalar.muli v2 c256_i32_546
  let v699 : Index := Scalar.indexCast v698
  let c0_547 : Index := 0#32
  ![v699.toNat, 0]
def k0_cond17 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_277 : BitVec 32 := 8#32
  let v402 : BitVec 1 := Scalar.cmpi .ne v2 c8_i32_277
  let v403 : BitVec 32 := Scalar.extui v402
  let c0_i32_278 : BitVec 32 := 0#32
  let v404 : BitVec 1 := Scalar.cmpi .ne v403 c0_i32_278
  v404

def k0_off17 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_551 : BitVec 32 := 0#32
  let c0_i32_552 : BitVec 32 := 0#32
  ![v2.toNat, 0, 0]
def k0_dev24 : Nat :=
  let c0_i32_550 : BitVec 32 := 0#32
  let c8_i32_548 : BitVec 32 := 8#32
  let c1_i32_549 : BitVec 32 := 1#32
  let v698 : BitVec 32 := Scalar.muli c8_i32_548 c1_i32_549
  let v699 : BitVec 32 := Scalar.addi c0_i32_550 v698
  v699.toNat
def k0_cond18 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_279 : BitVec 32 := 8#32
  let v405 : BitVec 1 := Scalar.cmpi .eq v2 c8_i32_279
  let v406 : BitVec 32 := Scalar.extui v405
  let c0_i32_280 : BitVec 32 := 0#32
  let v407 : BitVec 1 := Scalar.cmpi .ne v406 c0_i32_280
  v407

def k0_off18 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_546 : BitVec 32 := 256#32
  let v698 : BitVec 32 := Scalar.muli v2 c256_i32_546
  let v699 : Index := Scalar.indexCast v698
  let c0_547 : Index := 0#32
  ![v699.toNat, 0]
def k0_cond19 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_283 : BitVec 32 := 9#32
  let v413 : BitVec 1 := Scalar.cmpi .ne v2 c9_i32_283
  let v414 : BitVec 32 := Scalar.extui v413
  let c0_i32_284 : BitVec 32 := 0#32
  let v415 : BitVec 1 := Scalar.cmpi .ne v414 c0_i32_284
  v415

def k0_off19 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_551 : BitVec 32 := 0#32
  let c0_i32_552 : BitVec 32 := 0#32
  ![v2.toNat, 0, 0]
def k0_dev25 : Nat :=
  let c0_i32_550 : BitVec 32 := 0#32
  let c9_i32_548 : BitVec 32 := 9#32
  let c1_i32_549 : BitVec 32 := 1#32
  let v698 : BitVec 32 := Scalar.muli c9_i32_548 c1_i32_549
  let v699 : BitVec 32 := Scalar.addi c0_i32_550 v698
  v699.toNat
def k0_cond20 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_285 : BitVec 32 := 9#32
  let v416 : BitVec 1 := Scalar.cmpi .eq v2 c9_i32_285
  let v417 : BitVec 32 := Scalar.extui v416
  let c0_i32_286 : BitVec 32 := 0#32
  let v418 : BitVec 1 := Scalar.cmpi .ne v417 c0_i32_286
  v418

def k0_off20 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_546 : BitVec 32 := 256#32
  let v698 : BitVec 32 := Scalar.muli v2 c256_i32_546
  let v699 : Index := Scalar.indexCast v698
  let c0_547 : Index := 0#32
  ![v699.toNat, 0]
def k0_cond21 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_297 : BitVec 32 := 10#32
  let v433 : BitVec 1 := Scalar.cmpi .ne v2 c10_i32_297
  let v434 : BitVec 32 := Scalar.extui v433
  let c0_i32_298 : BitVec 32 := 0#32
  let v435 : BitVec 1 := Scalar.cmpi .ne v434 c0_i32_298
  v435

def k0_off21 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_551 : BitVec 32 := 0#32
  let c0_i32_552 : BitVec 32 := 0#32
  ![v2.toNat, 0, 0]
def k0_dev26 : Nat :=
  let c0_i32_550 : BitVec 32 := 0#32
  let c10_i32_548 : BitVec 32 := 10#32
  let c1_i32_549 : BitVec 32 := 1#32
  let v698 : BitVec 32 := Scalar.muli c10_i32_548 c1_i32_549
  let v699 : BitVec 32 := Scalar.addi c0_i32_550 v698
  v699.toNat
def k0_cond22 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_299 : BitVec 32 := 10#32
  let v436 : BitVec 1 := Scalar.cmpi .eq v2 c10_i32_299
  let v437 : BitVec 32 := Scalar.extui v436
  let c0_i32_300 : BitVec 32 := 0#32
  let v438 : BitVec 1 := Scalar.cmpi .ne v437 c0_i32_300
  v438

def k0_off22 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_546 : BitVec 32 := 256#32
  let v698 : BitVec 32 := Scalar.muli v2 c256_i32_546
  let v699 : Index := Scalar.indexCast v698
  let c0_547 : Index := 0#32
  ![v699.toNat, 0]
def k0_cond23 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_303 : BitVec 32 := 11#32
  let v444 : BitVec 1 := Scalar.cmpi .ne v2 c11_i32_303
  let v445 : BitVec 32 := Scalar.extui v444
  let c0_i32_304 : BitVec 32 := 0#32
  let v446 : BitVec 1 := Scalar.cmpi .ne v445 c0_i32_304
  v446

def k0_off23 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_551 : BitVec 32 := 0#32
  let c0_i32_552 : BitVec 32 := 0#32
  ![v2.toNat, 0, 0]
def k0_dev27 : Nat :=
  let c0_i32_550 : BitVec 32 := 0#32
  let c11_i32_548 : BitVec 32 := 11#32
  let c1_i32_549 : BitVec 32 := 1#32
  let v698 : BitVec 32 := Scalar.muli c11_i32_548 c1_i32_549
  let v699 : BitVec 32 := Scalar.addi c0_i32_550 v698
  v699.toNat
def k0_cond24 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_305 : BitVec 32 := 11#32
  let v447 : BitVec 1 := Scalar.cmpi .eq v2 c11_i32_305
  let v448 : BitVec 32 := Scalar.extui v447
  let c0_i32_306 : BitVec 32 := 0#32
  let v449 : BitVec 1 := Scalar.cmpi .ne v448 c0_i32_306
  v449

def k0_off24 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_546 : BitVec 32 := 256#32
  let v698 : BitVec 32 := Scalar.muli v2 c256_i32_546
  let v699 : Index := Scalar.indexCast v698
  let c0_547 : Index := 0#32
  ![v699.toNat, 0]
def k0_cond25 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_317 : BitVec 32 := 12#32
  let v464 : BitVec 1 := Scalar.cmpi .ne v2 c12_i32_317
  let v465 : BitVec 32 := Scalar.extui v464
  let c0_i32_318 : BitVec 32 := 0#32
  let v466 : BitVec 1 := Scalar.cmpi .ne v465 c0_i32_318
  v466

def k0_off25 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_551 : BitVec 32 := 0#32
  let c0_i32_552 : BitVec 32 := 0#32
  ![v2.toNat, 0, 0]
def k0_dev28 : Nat :=
  let c0_i32_550 : BitVec 32 := 0#32
  let c12_i32_548 : BitVec 32 := 12#32
  let c1_i32_549 : BitVec 32 := 1#32
  let v698 : BitVec 32 := Scalar.muli c12_i32_548 c1_i32_549
  let v699 : BitVec 32 := Scalar.addi c0_i32_550 v698
  v699.toNat
def k0_cond26 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_319 : BitVec 32 := 12#32
  let v467 : BitVec 1 := Scalar.cmpi .eq v2 c12_i32_319
  let v468 : BitVec 32 := Scalar.extui v467
  let c0_i32_320 : BitVec 32 := 0#32
  let v469 : BitVec 1 := Scalar.cmpi .ne v468 c0_i32_320
  v469

def k0_off26 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_546 : BitVec 32 := 256#32
  let v698 : BitVec 32 := Scalar.muli v2 c256_i32_546
  let v699 : Index := Scalar.indexCast v698
  let c0_547 : Index := 0#32
  ![v699.toNat, 0]
def k0_cond27 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_323 : BitVec 32 := 13#32
  let v475 : BitVec 1 := Scalar.cmpi .ne v2 c13_i32_323
  let v476 : BitVec 32 := Scalar.extui v475
  let c0_i32_324 : BitVec 32 := 0#32
  let v477 : BitVec 1 := Scalar.cmpi .ne v476 c0_i32_324
  v477

def k0_off27 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_551 : BitVec 32 := 0#32
  let c0_i32_552 : BitVec 32 := 0#32
  ![v2.toNat, 0, 0]
def k0_dev29 : Nat :=
  let c0_i32_550 : BitVec 32 := 0#32
  let c13_i32_548 : BitVec 32 := 13#32
  let c1_i32_549 : BitVec 32 := 1#32
  let v698 : BitVec 32 := Scalar.muli c13_i32_548 c1_i32_549
  let v699 : BitVec 32 := Scalar.addi c0_i32_550 v698
  v699.toNat
def k0_cond28 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_325 : BitVec 32 := 13#32
  let v478 : BitVec 1 := Scalar.cmpi .eq v2 c13_i32_325
  let v479 : BitVec 32 := Scalar.extui v478
  let c0_i32_326 : BitVec 32 := 0#32
  let v480 : BitVec 1 := Scalar.cmpi .ne v479 c0_i32_326
  v480

def k0_off28 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_546 : BitVec 32 := 256#32
  let v698 : BitVec 32 := Scalar.muli v2 c256_i32_546
  let v699 : Index := Scalar.indexCast v698
  let c0_547 : Index := 0#32
  ![v699.toNat, 0]
def k0_cond29 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_337 : BitVec 32 := 14#32
  let v495 : BitVec 1 := Scalar.cmpi .ne v2 c14_i32_337
  let v496 : BitVec 32 := Scalar.extui v495
  let c0_i32_338 : BitVec 32 := 0#32
  let v497 : BitVec 1 := Scalar.cmpi .ne v496 c0_i32_338
  v497

def k0_off29 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_551 : BitVec 32 := 0#32
  let c0_i32_552 : BitVec 32 := 0#32
  ![v2.toNat, 0, 0]
def k0_dev30 : Nat :=
  let c0_i32_550 : BitVec 32 := 0#32
  let c14_i32_548 : BitVec 32 := 14#32
  let c1_i32_549 : BitVec 32 := 1#32
  let v698 : BitVec 32 := Scalar.muli c14_i32_548 c1_i32_549
  let v699 : BitVec 32 := Scalar.addi c0_i32_550 v698
  v699.toNat
def k0_cond30 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_339 : BitVec 32 := 14#32
  let v498 : BitVec 1 := Scalar.cmpi .eq v2 c14_i32_339
  let v499 : BitVec 32 := Scalar.extui v498
  let c0_i32_340 : BitVec 32 := 0#32
  let v500 : BitVec 1 := Scalar.cmpi .ne v499 c0_i32_340
  v500

def k0_off30 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_546 : BitVec 32 := 256#32
  let v698 : BitVec 32 := Scalar.muli v2 c256_i32_546
  let v699 : Index := Scalar.indexCast v698
  let c0_547 : Index := 0#32
  ![v699.toNat, 0]
def k0_cond31 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_343 : BitVec 32 := 15#32
  let v506 : BitVec 1 := Scalar.cmpi .ne v2 c15_i32_343
  let v507 : BitVec 32 := Scalar.extui v506
  let c0_i32_344 : BitVec 32 := 0#32
  let v508 : BitVec 1 := Scalar.cmpi .ne v507 c0_i32_344
  v508

def k0_off31 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_551 : BitVec 32 := 0#32
  let c0_i32_552 : BitVec 32 := 0#32
  ![v2.toNat, 0, 0]
def k0_dev31 : Nat :=
  let c0_i32_550 : BitVec 32 := 0#32
  let c15_i32_548 : BitVec 32 := 15#32
  let c1_i32_549 : BitVec 32 := 1#32
  let v698 : BitVec 32 := Scalar.muli c15_i32_548 c1_i32_549
  let v699 : BitVec 32 := Scalar.addi c0_i32_550 v698
  v699.toNat
def k0_cond32 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_345 : BitVec 32 := 15#32
  let v509 : BitVec 1 := Scalar.cmpi .eq v2 c15_i32_345
  let v510 : BitVec 32 := Scalar.extui v509
  let c0_i32_346 : BitVec 32 := 0#32
  let v511 : BitVec 1 := Scalar.cmpi .ne v510 c0_i32_346
  v511

def k0_off32 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_546 : BitVec 32 := 256#32
  let v698 : BitVec 32 := Scalar.muli v2 c256_i32_546
  let v699 : Index := Scalar.indexCast v698
  let c0_547 : Index := 0#32
  ![v699.toNat, 0]
def k0_cond49 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_514 : BitVec 32 := 0#32
  let v650 : BitVec 1 := Scalar.cmpi .ne v2 c0_i32_514
  let v651 : BitVec 32 := Scalar.extui v650
  let c0_i32_515 : BitVec 32 := 0#32
  let v652 : BitVec 1 := Scalar.cmpi .ne v651 c0_i32_515
  v652

def k0_off33 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_552 : BitVec 32 := 0#32
  let c0_i32_553 : BitVec 32 := 0#32
  ![v2.toNat, 0, 0]
def k0_cond50 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_516 : BitVec 32 := 1#32
  let v653 : BitVec 1 := Scalar.cmpi .ne v2 c1_i32_516
  let v654 : BitVec 32 := Scalar.extui v653
  let c0_i32_517 : BitVec 32 := 0#32
  let v655 : BitVec 1 := Scalar.cmpi .ne v654 c0_i32_517
  v655

def k0_off34 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_552 : BitVec 32 := 0#32
  let c0_i32_553 : BitVec 32 := 0#32
  ![v2.toNat, 0, 0]
def k0_cond51 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_518 : BitVec 32 := 2#32
  let v656 : BitVec 1 := Scalar.cmpi .ne v2 c2_i32_518
  let v657 : BitVec 32 := Scalar.extui v656
  let c0_i32_519 : BitVec 32 := 0#32
  let v658 : BitVec 1 := Scalar.cmpi .ne v657 c0_i32_519
  v658

def k0_off35 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_552 : BitVec 32 := 0#32
  let c0_i32_553 : BitVec 32 := 0#32
  ![v2.toNat, 0, 0]
def k0_cond52 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_520 : BitVec 32 := 3#32
  let v659 : BitVec 1 := Scalar.cmpi .ne v2 c3_i32_520
  let v660 : BitVec 32 := Scalar.extui v659
  let c0_i32_521 : BitVec 32 := 0#32
  let v661 : BitVec 1 := Scalar.cmpi .ne v660 c0_i32_521
  v661

def k0_off36 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_552 : BitVec 32 := 0#32
  let c0_i32_553 : BitVec 32 := 0#32
  ![v2.toNat, 0, 0]
def k0_cond53 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_522 : BitVec 32 := 4#32
  let v662 : BitVec 1 := Scalar.cmpi .ne v2 c4_i32_522
  let v663 : BitVec 32 := Scalar.extui v662
  let c0_i32_523 : BitVec 32 := 0#32
  let v664 : BitVec 1 := Scalar.cmpi .ne v663 c0_i32_523
  v664

def k0_off37 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_552 : BitVec 32 := 0#32
  let c0_i32_553 : BitVec 32 := 0#32
  ![v2.toNat, 0, 0]
def k0_cond54 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_524 : BitVec 32 := 5#32
  let v665 : BitVec 1 := Scalar.cmpi .ne v2 c5_i32_524
  let v666 : BitVec 32 := Scalar.extui v665
  let c0_i32_525 : BitVec 32 := 0#32
  let v667 : BitVec 1 := Scalar.cmpi .ne v666 c0_i32_525
  v667

def k0_off38 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_552 : BitVec 32 := 0#32
  let c0_i32_553 : BitVec 32 := 0#32
  ![v2.toNat, 0, 0]
def k0_cond55 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_526 : BitVec 32 := 6#32
  let v668 : BitVec 1 := Scalar.cmpi .ne v2 c6_i32_526
  let v669 : BitVec 32 := Scalar.extui v668
  let c0_i32_527 : BitVec 32 := 0#32
  let v670 : BitVec 1 := Scalar.cmpi .ne v669 c0_i32_527
  v670

def k0_off39 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_552 : BitVec 32 := 0#32
  let c0_i32_553 : BitVec 32 := 0#32
  ![v2.toNat, 0, 0]
def k0_cond56 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_528 : BitVec 32 := 7#32
  let v671 : BitVec 1 := Scalar.cmpi .ne v2 c7_i32_528
  let v672 : BitVec 32 := Scalar.extui v671
  let c0_i32_529 : BitVec 32 := 0#32
  let v673 : BitVec 1 := Scalar.cmpi .ne v672 c0_i32_529
  v673

def k0_off40 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_552 : BitVec 32 := 0#32
  let c0_i32_553 : BitVec 32 := 0#32
  ![v2.toNat, 0, 0]
def k0_cond57 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_530 : BitVec 32 := 8#32
  let v674 : BitVec 1 := Scalar.cmpi .ne v2 c8_i32_530
  let v675 : BitVec 32 := Scalar.extui v674
  let c0_i32_531 : BitVec 32 := 0#32
  let v676 : BitVec 1 := Scalar.cmpi .ne v675 c0_i32_531
  v676

def k0_off41 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_552 : BitVec 32 := 0#32
  let c0_i32_553 : BitVec 32 := 0#32
  ![v2.toNat, 0, 0]
def k0_cond58 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_532 : BitVec 32 := 9#32
  let v677 : BitVec 1 := Scalar.cmpi .ne v2 c9_i32_532
  let v678 : BitVec 32 := Scalar.extui v677
  let c0_i32_533 : BitVec 32 := 0#32
  let v679 : BitVec 1 := Scalar.cmpi .ne v678 c0_i32_533
  v679

def k0_off42 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_552 : BitVec 32 := 0#32
  let c0_i32_553 : BitVec 32 := 0#32
  ![v2.toNat, 0, 0]
def k0_cond59 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_534 : BitVec 32 := 10#32
  let v680 : BitVec 1 := Scalar.cmpi .ne v2 c10_i32_534
  let v681 : BitVec 32 := Scalar.extui v680
  let c0_i32_535 : BitVec 32 := 0#32
  let v682 : BitVec 1 := Scalar.cmpi .ne v681 c0_i32_535
  v682

def k0_off43 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_552 : BitVec 32 := 0#32
  let c0_i32_553 : BitVec 32 := 0#32
  ![v2.toNat, 0, 0]
def k0_cond60 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_536 : BitVec 32 := 11#32
  let v683 : BitVec 1 := Scalar.cmpi .ne v2 c11_i32_536
  let v684 : BitVec 32 := Scalar.extui v683
  let c0_i32_537 : BitVec 32 := 0#32
  let v685 : BitVec 1 := Scalar.cmpi .ne v684 c0_i32_537
  v685

def k0_off44 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_552 : BitVec 32 := 0#32
  let c0_i32_553 : BitVec 32 := 0#32
  ![v2.toNat, 0, 0]
def k0_cond61 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_538 : BitVec 32 := 12#32
  let v686 : BitVec 1 := Scalar.cmpi .ne v2 c12_i32_538
  let v687 : BitVec 32 := Scalar.extui v686
  let c0_i32_539 : BitVec 32 := 0#32
  let v688 : BitVec 1 := Scalar.cmpi .ne v687 c0_i32_539
  v688

def k0_off45 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_552 : BitVec 32 := 0#32
  let c0_i32_553 : BitVec 32 := 0#32
  ![v2.toNat, 0, 0]
def k0_cond62 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_540 : BitVec 32 := 13#32
  let v689 : BitVec 1 := Scalar.cmpi .ne v2 c13_i32_540
  let v690 : BitVec 32 := Scalar.extui v689
  let c0_i32_541 : BitVec 32 := 0#32
  let v691 : BitVec 1 := Scalar.cmpi .ne v690 c0_i32_541
  v691

def k0_off46 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_552 : BitVec 32 := 0#32
  let c0_i32_553 : BitVec 32 := 0#32
  ![v2.toNat, 0, 0]
def k0_cond63 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_542 : BitVec 32 := 14#32
  let v692 : BitVec 1 := Scalar.cmpi .ne v2 c14_i32_542
  let v693 : BitVec 32 := Scalar.extui v692
  let c0_i32_543 : BitVec 32 := 0#32
  let v694 : BitVec 1 := Scalar.cmpi .ne v693 c0_i32_543
  v694

def k0_off47 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_552 : BitVec 32 := 0#32
  let c0_i32_553 : BitVec 32 := 0#32
  ![v2.toNat, 0, 0]
def k0_cond64 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_544 : BitVec 32 := 15#32
  let v695 : BitVec 1 := Scalar.cmpi .ne v2 c15_i32_544
  let v696 : BitVec 32 := Scalar.extui v695
  let c0_i32_545 : BitVec 32 := 0#32
  let v697 : BitVec 1 := Scalar.cmpi .ne v696 c0_i32_545
  v697

def k0_off48 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_552 : BitVec 32 := 0#32
  let c0_i32_553 : BitVec 32 := 0#32
  ![v2.toNat, 0, 0]
abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.KernelIdealProto.lean ====
/-
# The schedule of the all-to-all matrix product

Sixteen devices. Device `c` holds 256 rows `x_c` of `x` and the whole of `w`, computes `relu (x_c · w)` sixteen columns blocks
of 128 at a time and sends block `d` to device `d`, which stores it at rows `256 c …` of its own result.

Semaphores, for each device `c`:
* `ready` (regular): every other device signals it one unit, handing over the slot of its landing buffer that `c` is to
  fill; `c` waits for the fifteen units before its first transfer.
* `x`: `c` copies its rows from HBM onto it and waits for the copy.
* `w j`: `c` copies columns `256 j …` of `w` onto it and waits for the copy.
* `send d`, `d ≠ c`: the transfer of block `d` pays it when the source slot `d` has been read; `c` waits for each at the end.
* `recv`: the fifteen transfers to `c` all pay it, each handing over its landing slot holding the sender's block; `c` waits
  fifteen times for one block's credit, and only after the last wait does it know which blocks have landed: all of them.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The pipeline's rounds, whose duties carry no name, and the kernel's, a duty named by the device that pays it. -/
abbrev UU : Type := URounds (GSem nD τ sig) Unit × URounds (GSem nD τ sig) (Dev nD)

local notation "𝕄" => MT nD τ sig Unit (Elt F) ℕ UU ℕ

abbrev EP : Emb (URounds (GSem nD τ sig) Unit) (MT nD τ sig Unit (Elt F) ℕ UU ℕ) := embL
abbrev ER : Emb (URounds (GSem nD τ sig) (Dev nD)) (MT nD τ sig Unit (Elt F) ℕ UU ℕ) := embR

variable (m : (ℓ : Loc nD τ sig) → Buf (Elt F) ℓ) (ρ : Dev nD → PrngReg)

/-- The launch memory: contents `m`, every counter zero. -/
def s₀ : MemSt nD τ sig (Elt F) := ⟨m, fun _ => 0, ρ⟩

/-! ## The memrefs -/

abbrev xM : Memref sig .tc .hbm S256x4096 .f32 := Memref.whole main_arg0
abbrev wM : Memref sig .tc .hbm S4096x2048 .f32 := Memref.whole main_arg1
abbrev oM : Memref sig .tc .vmem S4096x128 .f32 := Memref.whole cc0_stg0_0
abbrev xvM : Memref sig .tc .vmem S256x4096 .f32 := Memref.whole cc0_scratch0
abbrev wvM : Memref sig .tc .vmem S4096x2048 .f32 := Memref.whole cc0_scratch1
abbrev sM : Memref sig .tc .vmem S16x256x128 .bf16 := Memref.whole cc0_scratch2
abbrev rM : Memref sig .tc .vmem S16x256x128 .bf16 := Memref.whole cc0_scratch3

theorem slot_inb (d : Dev nD) : ∀ a, (![d.val, 0, 0] : Fin 3 → ℕ) a + S1x256x128.size a ≤ S16x256x128.size a := by
  revert d; decide
theorem chunk_inb (j : Fin 8) : ∀ a, (![0, 256 * j.val] : Fin 2 → ℕ) a + S4096x256.size a ≤ S4096x2048.size a := by
  revert j; decide
theorem block_inb (d : Dev nD) : ∀ a, (![256 * d.val, 0] : Fin 2 → ℕ) a + S256x128.size a ≤ S4096x128.size a := by
  revert d; decide

/-- Slot `d` of a sixteen-slot buffer. -/
abbrev slotR (d : Dev nD) : Rect S16x256x128 := Rect.unit ![d.val, 0, 0] S1x256x128.size (slot_inb d)
/-- Columns `256 j …` of `w`. -/
abbrev chunkR (j : Fin 8) : Rect S4096x2048 := Rect.unit ![0, 256 * j.val] S4096x256.size (chunk_inb j)
/-- Rows `256 d …` of the result block. -/
abbrev blockR (d : Dev nD) : Rect S4096x128 := Rect.unit ![256 * d.val, 0] S256x128.size (block_inb d)

abbrev sSlot (d : Dev nD) : Memref sig .tc .vmem S256x128 .bf16 := (sM.slice (slotR d) (fun _ => rfl)).squeeze S256x128 squeezes_S1x256x128_S256x128
abbrev rSlot (d : Dev nD) : Memref sig .tc .vmem S256x128 .bf16 := (rM.slice (slotR d) (fun _ => rfl)).squeeze S256x128 squeezes_S1x256x128_S256x128
abbrev wSl (j : Fin 8) : Memref sig .tc .hbm S4096x256 .f32 := wM.slice (chunkR j) (fun _ => rfl)
abbrev wvSl (j : Fin 8) : Memref sig .tc .vmem S4096x256 .f32 := wvM.slice (chunkR j) (fun _ => rfl)

/-! ## The semaphores -/

theorem s8_inb (j : Fin 8) : ∀ a, (![j.val] : Fin 1 → ℕ) a + S1.size a ≤ S8.size a := by revert j; decide
theorem s16_inb (d : Dev nD) : ∀ a, (![d.val] : Fin 1 → ℕ) a + S1.size a ≤ S16.size a := by revert d; decide

abbrev readyS : Sem sig := ((cc0_scratch8.slice (Rect.unit ![0] S1.size inb_S1_S1_0)).squeeze S_ squeezes_S1_S_).sem
abbrev xS : DmaSem sig := (cc0_scratch4 : DmaSems sig S_).sem
abbrev recvS : DmaSem sig := (cc0_scratch7 : DmaSems sig S_).sem
abbrev wS (j : Fin 8) : DmaSem sig := ((cc0_scratch5.slice (Rect.unit ![j.val] S1.size (s8_inb j))).squeeze S_ squeezes_S1_S_).sem
abbrev sendS (d : Dev nD) : DmaSem sig := ((cc0_scratch6.slice (Rect.unit ![d.val] S1.size (s16_inb d))).squeeze S_ squeezes_S1_S_).sem

/-- A device's semaphores: `ready`, `recv`, `x`; `w j`; `send d`. -/
abbrev KK : Type := Fin 3 ⊕ Fin 8 ⊕ Dev nD

def osem : KK → SemLoc sig
  | .inl 0 => .reg readyS
  | .inl 1 => .dma recvS
  | .inl 2 => .dma xS
  | .inr (.inl j) => .dma (wS j)
  | .inr (.inr d) => .dma (sendS d)

theorem ownSemFacts : Pipeline.OwnSemFacts cfg0.spec osem := by decide +kernel

abbrev kReady : KK := .inl 0
abbrev kRecv : KK := .inl 1
abbrev kX : KK := .inl 2
abbrev kW (j : Fin 8) : KK := .inr (.inl j)
abbrev kSend (d : Dev nD) : KK := .inr (.inr d)

abbrev kcell (ck : Dev nD × KK) : GSem nD τ sig := ((ck.1 : Thread nD τ), osem ck.2)
abbrev readyCell (c : Dev nD) : GSem nD τ sig := ((c : Thread nD τ), .reg readyS)
abbrev recvCell (c : Dev nD) : GSem nD τ sig := ((c : Thread nD τ), .dma recvS)
abbrev xCell (c : Dev nD) : GSem nD τ sig := ((c : Thread nD τ), .dma xS)
abbrev wCell (c : Dev nD) (j : Fin 8) : GSem nD τ sig := ((c : Thread nD τ), .dma (wS j))
abbrev sendCell (c d : Dev nD) : GSem nD τ sig := ((c : Thread nD τ), .dma (sendS d))

theorem kcell_injective : Function.Injective (kcell : Dev nD × KK → GSem nD τ sig) := by
  rintro ⟨c, k⟩ ⟨c', k'⟩ h
  have h1 : c = c' := congrArg (fun g : GSem nD τ sig => g.1.1) h
  subst h1
  have h2 : osem k = osem k' := congrArg Prod.snd h
  rw [ownSemFacts.inj h2]

/-- Which of the device's semaphores a semaphore is. -/
def kindOf (s : SemLoc sig) : Option KK := Function.partialInv osem s
theorem kindOf_osem (k : KK) : kindOf (osem k) = some k := Function.partialInv_left ownSemFacts.inj k

/-- The credit of one 256 × 128 block of the sent format. -/
@[irreducible] def N : ℕ := (rSlot 0).view.dmaCredit
/-- The credit of the device's rows of `x`, and of 256 columns of `w`. -/
@[irreducible] def xN : ℕ := (xvM : Memref sig .tc .vmem S256x4096 .f32).view.dmaCredit
@[irreducible] def wN : ℕ := (wvSl 0).view.dmaCredit
theorem N_pos : 0 < N := by unfold N; exact View.dmaCredit_pos _ (by decide)
theorem xN_pos : 0 < xN := by unfold xN; exact View.dmaCredit_pos _ (by decide)
theorem wN_pos : 0 < wN := by unfold wN; exact View.dmaCredit_pos _ (by decide)

/-! ## Contents -/

/-- Device `c`'s rows of `x`. -/
def xc (c : Dev nD) : Vec F S256x4096 .f32 := m ((c : Thread nD τ).loc main_arg0)
/-- Columns `256 j …` of device `c`'s `w`. -/
def wc (c : Dev nD) (j : Fin 8) : Vec F S4096x256 .f32 := (wSl j).view.read (Elt F) (m ((c : Thread nD τ).loc main_arg1))

/-- The chunk of `w` that column block `d` lies in. -/
def half (d : Dev nD) : Fin 8 := ⟨d.val / 2, by have : d.val < 16 := d.isLt; omega⟩

/-- Device `c`'s block for device `d`: columns `128 d …` of `relu (x_c · w)`. -/
def sub (c d : Dev nD) : FVec F S256x128 .f32 :=
  if d.val % 2 = 0 then k0_pay3 (xc m c) (wc m c (half d)) else k0_pay6 (k0_pay2 (xc m c) (wc m c (half d)))

/-- The block in the format it is sent in. -/
def snd (c d : Dev nD) : FVec F S256x128 .bf16 := truncf .bf16 (sub m c d) bitsLt_bf16_f32

/-- Rows `256 i …` of device `c`'s result: its own block as computed, another device's as sent and widened. -/
def blkOut (c i : Dev nD) : FVec F S256x128 .f32 :=
  if i = c then sub m c c else extf .f32 (snd m i c) bitsLt_bf16_f32

/-! ## Resources -/

/-- Send slot `d` of device `c` at contents `f`. -/
def sPts (c d : Dev nD) (f : Buf (Elt F) ((sSlot d).view.loc (c : Thread nD τ))) : sProp 𝕄 :=
  (sSlot d).view.loc (c : Thread nD τ) ↦[(sSlot d).view.set]{fullShare} f
/-- Landing slot `d` of device `c` at contents `f`. -/
def rPts (c d : Dev nD) (f : Buf (Elt F) ((rSlot d).view.loc (c : Thread nD τ))) : sProp 𝕄 :=
  (rSlot d).view.loc (c : Thread nD τ) ↦[(rSlot d).view.set]{fullShare} f

/-- Send slot `d` of device `c` at some contents; and holding `v`. -/
def sAny (c d : Dev nD) : sProp 𝕄 := iprop(∃ f, sPts c d f)
def sHas (c d : Dev nD) (v : FVec F S256x128 .bf16) : sProp 𝕄 := iprop(∃ f, ⌜(sSlot d).view.read (Elt F) f = v⌝ ∗ sPts c d f)
/-- Landing slot `d` of device `c` at some contents; and holding `v`. -/
def rAny (c d : Dev nD) : sProp 𝕄 := iprop(∃ f, rPts c d f)
def rHas (c d : Dev nD) (v : FVec F S256x128 .bf16) : sProp 𝕄 := iprop(∃ f, ⌜(rSlot d).view.read (Elt F) f = v⌝ ∗ rPts c d f)

/-- Device `c`'s rows of `x` in HBM, and its copy of them. -/
def xPts (c : Dev nD) : sProp 𝕄 := (xM : Memref sig .tc .hbm S256x4096 .f32).view.loc (c : Thread nD τ) ↦[(xM : Memref sig .tc .hbm S256x4096 .f32).view.set]{fullShare} m ((c : Thread nD τ).loc main_arg0)
def xvPts (c : Dev nD) (f : Buf (Elt F) ((xvM : Memref sig .tc .vmem S256x4096 .f32).view.loc (c : Thread nD τ))) : sProp 𝕄 :=
  (xvM : Memref sig .tc .vmem S256x4096 .f32).view.loc (c : Thread nD τ) ↦[(xvM : Memref sig .tc .vmem S256x4096 .f32).view.set]{fullShare} f
/-- Columns `256 j …` of device `c`'s `w` in HBM, and of its copy. -/
def wPts (c : Dev nD) (j : Fin 8) : sProp 𝕄 := (wSl j).view.loc (c : Thread nD τ) ↦[(wSl j).view.set]{fullShare} m ((c : Thread nD τ).loc main_arg1)
def wvPts (c : Dev nD) (j : Fin 8) (f : Buf (Elt F) ((wvSl j).view.loc (c : Thread nD τ))) : sProp 𝕄 :=
  (wvSl j).view.loc (c : Thread nD τ) ↦[(wvSl j).view.set]{fullShare} f

/-- What the copy of `x` hands back, and what the copy of columns `256 j …` of `w` does. -/
def xPay (c : Dev nD) : sProp 𝕄 := iprop(xvPts c (xc m c) ∗ xPts m c)
def wPay (c : Dev nD) (j : Fin 8) : sProp 𝕄 := iprop((∃ f, ⌜(wvSl j).view.read (Elt F) f = wc m c j⌝ ∗ wvPts c j f) ∗ wPts m c j)

section Storable
omit [FloatOps F]
instance sPts_storable (c d : Dev nD) (f) : BI.Storable (upEmb : UEmb _ 𝕄) (sPts (F := F) c d f) := by unfold sPts; infer_instance
instance rPts_storable (c d : Dev nD) (f) : BI.Storable (upEmb : UEmb _ 𝕄) (rPts (F := F) c d f) := by unfold rPts; infer_instance
instance xPts_storable (c : Dev nD) : BI.Storable (upEmb : UEmb _ 𝕄) (xPts (F := F) m c) := by unfold xPts; infer_instance
instance xvPts_storable (c : Dev nD) (f) : BI.Storable (upEmb : UEmb _ 𝕄) (xvPts (F := F) c f) := by unfold xvPts; infer_instance
instance wPts_storable (c : Dev nD) (j : Fin 8) : BI.Storable (upEmb : UEmb _ 𝕄) (wPts (F := F) m c j) := by unfold wPts; infer_instance
instance wvPts_storable (c : Dev nD) (j : Fin 8) (f) : BI.Storable (upEmb : UEmb _ 𝕄) (wvPts (F := F) c j f) := by unfold wvPts; infer_instance
instance sAny_storable (c d : Dev nD) : BI.Storable (upEmb : UEmb _ 𝕄) (sAny (F := F) c d) := by unfold sAny; infer_instance
instance rAny_storable (c d : Dev nD) : BI.Storable (upEmb : UEmb _ 𝕄) (rAny (F := F) c d) := by unfold rAny; infer_instance
instance rHas_storable (c d : Dev nD) (v) : BI.Storable (upEmb : UEmb _ 𝕄) (rHas (F := F) c d v) := by unfold rHas; infer_instance
instance xPay_storable (c : Dev nD) : BI.Storable (upEmb : UEmb _ 𝕄) (xPay (F := F) m c) := by unfold xPay; infer_instance
instance wPay_storable (c : Dev nD) (j : Fin 8) : BI.Storable (upEmb : UEmb _ 𝕄) (wPay (F := F) m c j) := by unfold wPay; infer_instance
end Storable

/-! ## The schedule -/

/-- Who pays semaphore `k` of device `c`. -/
def dutK (c : Dev nD) : KK → Finset (Dev nD)
  | .inl 0 => Finset.univ.erase c
  | .inl 1 => Finset.univ.erase c
  | .inl 2 => {c}
  | .inr (.inl _) => {c}
  | .inr (.inr d) => if d = c then ∅ else {c}

/-- How much each payer pays. -/
def amtK : KK → ℕ
  | .inl 0 => 1
  | .inl 1 => N
  | .inl 2 => xN
  | .inr (.inl _) => wN
  | .inr (.inr _) => N

/-- What payer `d` of semaphore `k` of device `c` hands over. -/
def payK (c : Dev nD) (d : Dev nD) : KK → sProp 𝕄
  | .inl 0 => rAny d c
  | .inl 1 => rHas c d (snd m d c)
  | .inl 2 => xPay m c
  | .inr (.inl j) => wPay m c j
  | .inr (.inr e) => sAny c e

theorem amtK_pos : ∀ k, 0 < amtK k
  | .inl 0 => Nat.one_pos
  | .inl 1 => N_pos
  | .inl 2 => xN_pos
  | .inr (.inl _) => wN_pos
  | .inr (.inr _) => N_pos

instance payK_storable (c d : Dev nD) : ∀ k, BI.Storable (upEmb : UEmb _ 𝕄) (payK (F := F) m c d k)
  | .inl 0 => rAny_storable d c
  | .inl 1 => rHas_storable c d _
  | .inl 2 => xPay_storable m c
  | .inr (.inl j) => wPay_storable m c j
  | .inr (.inr e) => sAny_storable c e

def Rd : Rounds.Schedule (GSem nD τ sig) (Dev nD) 𝕄 where
  duties g r := if r = 0 ∧ g.1.2 = .tc then (kindOf g.2).elim ∅ (dutK g.1.1) else ∅
  unitless _ := False
  amount g _ _ := (kindOf g.2).elim 1 amtK
  payload g _ d := (kindOf g.2).elim iprop(emp) (payK m g.1.1 d)
  amount_pos g _ _ _ := by
    rcases kindOf g.2 with _ | k
    · exact Nat.one_pos
    · exact amtK_pos k

instance Rd_payload_storable (g : GSem nD τ sig) (r : ℕ) (d : Dev nD) : BI.Storable (upEmb : UEmb _ 𝕄) ((Rd (F := F) m).payload g r d) := by
  show BI.Storable upEmb ((kindOf g.2).elim iprop(emp) (payK m g.1.1 d))
  rcases kindOf g.2 with _ | k
  · show BI.Storable upEmb iprop(emp); infer_instance
  · exact payK_storable m g.1.1 d k

theorem duties_k (c : Dev nD) (k : KK) : (Rd (F := F) m).duties ((c : Thread nD τ), osem k) 0 = dutK c k := by
  dsimp only [Rd]; rw [if_pos ⟨rfl, rfl⟩, kindOf_osem]; rfl
theorem amount_k (c : Dev nD) (k : KK) (d : Dev nD) : (Rd (F := F) m).amount ((c : Thread nD τ), osem k) 0 d = amtK k := by
  dsimp only [Rd]; rw [kindOf_osem]; rfl
theorem payload_k (c : Dev nD) (k : KK) (d : Dev nD) : (Rd (F := F) m).payload ((c : Thread nD τ), osem k) 0 d = payK m c d k := by
  dsimp only [Rd]; rw [kindOf_osem]; rfl
theorem duties_later (g : GSem nD τ sig) : ∀ r, 1 ≤ r → (Rd (F := F) m).duties g r = ∅ :=
  fun r hr => by dsimp only [Rd]; exact if_neg fun h => by omega
theorem expect_k (c : Dev nD) (k : KK) : (Rd (F := F) m).expect ((c : Thread nD τ), osem k) 0 = (dutK c k).card * amtK k := by
  unfold Schedule.expect Schedule.amountOf
  rw [duties_k, Finset.sum_congr rfl fun d _ => amount_k m c k d, Finset.sum_const, smul_eq_mul]

section Sched
variable (c : Dev nD)
theorem duties_ready : (Rd (F := F) m).duties (readyCell c) 0 = Finset.univ.erase c := duties_k m c kReady
theorem duties_recv : (Rd (F := F) m).duties (recvCell c) 0 = Finset.univ.erase c := duties_k m c kRecv
theorem duties_x : (Rd (F := F) m).duties (xCell c) 0 = {c} := duties_k m c kX
theorem duties_w (j : Fin 8) : (Rd (F := F) m).duties (wCell c j) 0 = {c} := duties_k m c (kW j)
theorem duties_send {d : Dev nD} (h : d ≠ c) : (Rd (F := F) m).duties (sendCell c d) 0 = {c} := (duties_k m c (kSend d)).trans (if_neg h)
theorem duties_send_self : (Rd (F := F) m).duties (sendCell c c) 0 = ∅ := (duties_k m c (kSend c)).trans (if_pos rfl)
theorem amount_ready (d : Dev nD) : (Rd (F := F) m).amount (readyCell c) 0 d = 1 := amount_k m c kReady d
theorem amount_recv (d : Dev nD) : (Rd (F := F) m).amount (recvCell c) 0 d = N := amount_k m c kRecv d
theorem amount_x (d : Dev nD) : (Rd (F := F) m).amount (xCell c) 0 d = xN := amount_k m c kX d
theorem amount_w (j : Fin 8) (d : Dev nD) : (Rd (F := F) m).amount (wCell c j) 0 d = wN := amount_k m c (kW j) d
theorem amount_send (e d : Dev nD) : (Rd (F := F) m).amount (sendCell c e) 0 d = N := amount_k m c (kSend e) d
theorem payload_ready (d : Dev nD) : (Rd (F := F) m).payload (readyCell c) 0 d = rAny d c := payload_k m c kReady d
theorem payload_recv (d : Dev nD) : (Rd (F := F) m).payload (recvCell c) 0 d = rHas c d (snd m d c) := payload_k m c kRecv d
theorem payload_x (d : Dev nD) : (Rd (F := F) m).payload (xCell c) 0 d = xPay m c := payload_k m c kX d
theorem payload_w (j : Fin 8) (d : Dev nD) : (Rd (F := F) m).payload (wCell c j) 0 d = wPay m c j := payload_k m c (kW j) d
theorem payload_send (e d : Dev nD) : (Rd (F := F) m).payload (sendCell c e) 0 d = sAny c e := payload_k m c (kSend e) d
theorem card_others : (Finset.univ.erase c : Finset (Dev nD)).card = 15 := by
  rw [Finset.card_erase_of_mem (Finset.mem_univ c), Finset.card_univ, Fintype.card_fin]; rfl
theorem expect_ready : (Rd (F := F) m).expect (readyCell c) 0 = 15 := by
  refine (expect_k m c kReady).trans ?_
  show (Finset.univ.erase c : Finset (Dev nD)).card * 1 = 15
  rw [card_others]
theorem expect_recv : (Rd (F := F) m).expect (recvCell c) 0 = 15 * N := by
  refine (expect_k m c kRecv).trans ?_
  show (Finset.univ.erase c : Finset (Dev nD)).card * N = 15 * N
  rw [card_others]
theorem expect_x : (Rd (F := F) m).expect (xCell c) 0 = xN := (expect_k m c kX).trans (Nat.one_mul xN)
theorem expect_w (j : Fin 8) : (Rd (F := F) m).expect (wCell c j) 0 = wN := (expect_k m c (kW j)).trans (Nat.one_mul wN)
theorem expect_send {d : Dev nD} (h : d ≠ c) : (Rd (F := F) m).expect (sendCell c d) 0 = N := by
  refine (expect_k m c (kSend d)).trans ?_
  show (if d = c then (∅ : Finset (Dev nD)) else {c}).card * N = N
  rw [if_neg h, Finset.card_singleton, Nat.one_mul]
end Sched

/-! ## What each device owes; the levels -/

/-- What device `c` still owes the other devices' receive cells once it has sent blocks `< d`. -/
def owedR (c : Dev nD) (d : ℕ) : CellTallies nD τ sig Unit :=
  ∑ j : Dev nD, if j ≠ c ∧ d ≤ j.val then tallyAt (recvCell j) () N else 0
/-- Device `c`'s `j`-th distance round the mesh: device `c + t` is at distance `t`. -/
def dist (c j : Dev nD) : ℕ := (j - c).val
/-- What device `c` still owes the other devices' ready cells once it has signalled those at distance `< t`. -/
def owedB (c : Dev nD) (t : ℕ) : CellTallies nD τ sig Unit :=
  ∑ j : Dev nD, if j ≠ c ∧ t ≤ dist c j then tallyAt (readyCell j) () 1 else 0

def O₀ (c : Dev nD) : CellTallies nD τ sig Unit := owedR c 0 + owedB c 0

def L (g : GSem nD τ sig) : Finset Unit := if g.1.2 = .tc then {()} else ∅
def lv (g : GSem nD τ sig) (_ : Unit) : ℕ := if g.2 = .reg readyS then 1 else if g.2 = .dma recvS then 2 else 0
theorem L_of_ne (g : GSem nD τ sig) (h : g.1.2 ≠ .tc) : L g = ∅ := if_neg h
theorem L_tc (c : Dev nD) (sm : SemLoc sig) : L ((c : Thread nD τ), sm) = {()} := if_pos rfl
theorem recv_ne_ready : (SemLoc.dma recvS : SemLoc sig) ≠ .reg readyS := fun h => by cases h
theorem lv_ready (c : Dev nD) : lv (readyCell c) () = 1 := if_pos rfl
theorem lv_recv (c : Dev nD) : lv (recvCell c) () = 2 := by unfold lv; rw [if_neg recv_ne_ready, if_pos rfl]

theorem sum_cells_pos {p : Dev nD → Prop} [DecidablePred p] {f : Dev nD → GSem nD τ sig} {n : ℕ} {g : GSem nD τ sig} {u : Unit}
    (h : 0 < (∑ j : Dev nD, if p j then tallyAt (f j) () n else 0 : CellTallies nD τ sig Unit) g u) : ∃ j, g = f j := by
  by_contra hn
  rw [not_exists] at hn
  rw [Finset.sum_apply, Finsupp.finset_sum_apply] at h
  refine absurd h (Nat.not_lt.2 (Nat.le_of_eq (Finset.sum_eq_zero fun j _ => ?_)))
  split
  · rw [tallyAt_apply, if_neg fun h' => hn j h'.1]
  · rfl

theorem owed_pos {c : Dev nD} {d t : ℕ} {g : GSem nD τ sig} {u : Unit} (h : 0 < (owedR c d + owedB c t) g u) :
    (∃ j, g = recvCell j) ∨ ∃ j, g = readyCell j := by
  rw [Pi.add_apply, Finsupp.add_apply] at h
  rcases Nat.add_pos_iff_pos_or_pos.1 h with h | h
  · exact .inl (sum_cells_pos h)
  · exact .inr (sum_cells_pos h)

omit [FloatOps F] in
/-- A device may wait on one of its own copies' semaphores whatever it owes. -/
theorem mayWait_low (c : Dev nD) (q : SemLoc sig) (hq : q ≠ .dma recvS) (hq' : q ≠ .reg readyS) (d t : ℕ) :
    (levAts L lv : sProp 𝕄) ⊢ MayWait (c : Thread nD τ) q () (owedR c d + owedB c t) :=
  MayOwe.of_cut (L := L) (lev := lv) 0 (fun p hp => by rw [Finset.mem_singleton.mp hp, L_tc]; exact Finset.mem_singleton_self _)
    (fun g u hg => by rcases owed_pos hg with ⟨j, rfl⟩ | ⟨j, rfl⟩ <;> exact Finset.mem_singleton_self _)
    (fun p hp => by rw [Finset.mem_singleton.mp hp]; dsimp only [lv]; rw [if_neg hq', if_neg hq])
    (fun g u hg => by
      rcases owed_pos hg with ⟨j, rfl⟩ | ⟨j, rfl⟩
      · rw [lv_recv]; decide
      · rw [lv_ready]; decide)

theorem dist_inj : ∀ c i j : Dev nD, dist c i = dist c j → i = j := by unfold dist; decide +kernel
theorem dist_lt (c j : Dev nD) : dist c j < 16 := (j - c).isLt

theorem owedB_done (c : Dev nD) : owedB c 16 = 0 :=
  Finset.sum_eq_zero fun j _ => if_neg fun h => absurd (dist_lt c j) (Nat.not_lt.2 h.2)
theorem owedR_done (c : Dev nD) : owedR c 16 = 0 :=
  Finset.sum_eq_zero fun j _ => if_neg fun h => absurd j.isLt (Nat.not_lt.2 h.2)

omit [FloatOps F] in
/-- A device that has signalled every other device may wait on its ready cell. -/
theorem mayWait_ready (c : Dev nD) (d : ℕ) :
    (levAts L lv : sProp 𝕄) ⊢ MayWait (c : Thread nD τ) (.reg readyS) () (owedR c d + owedB c 16) := by
  rw [owedB_done, add_zero]
  exact MayOwe.of_cut (L := L) (lev := lv) 1 (fun p hp => by rw [Finset.mem_singleton.mp hp, L_tc]; exact Finset.mem_singleton_self _)
    (fun g u hg => by obtain ⟨j, rfl⟩ := sum_cells_pos hg; exact Finset.mem_singleton_self _)
    (fun p hp => by rw [Finset.mem_singleton.mp hp]; dsimp only [lv]; rw [if_pos rfl])
    (fun g u hg => by obtain ⟨j, rfl⟩ := sum_cells_pos hg; rw [lv_recv]; decide)

/-- Sending block `d` pays its tally. -/
theorem owedR_step (c d : Dev nD) (h : d ≠ c) : owedR c d.val = owedR c (d.val + 1) + tallyAt (recvCell d) () N := by
  unfold owedR
  rw [← Finset.add_sum_erase _ _ (Finset.mem_univ d), ← Finset.add_sum_erase (a := d) _ (fun j : Dev nD => if j ≠ c ∧ d.val + 1 ≤ j.val then _ else _) (Finset.mem_univ d),
    if_pos ⟨h, le_refl _⟩, if_neg (fun h' => absurd h'.2 (Nat.not_succ_le_self _)), zero_add, add_comm]
  refine congrArg (· + _) (Finset.sum_congr rfl fun j hj => ?_)
  have hne : j.val ≠ d.val := fun e => Finset.ne_of_mem_erase hj (Fin.ext e)
  by_cases hjc : j ≠ c ∧ d.val ≤ j.val
  · rw [if_pos hjc, if_pos ⟨hjc.1, by omega⟩]
  · rw [if_neg hjc, if_neg fun h' => hjc ⟨h'.1, by omega⟩]
theorem owedR_skip (c : Dev nD) : owedR c c.val = owedR c (c.val + 1) := by
  unfold owedR
  refine Finset.sum_congr rfl fun j _ => ?_
  by_cases hjc : j ≠ c ∧ c.val ≤ j.val
  · have hne : j.val ≠ c.val := fun e => hjc.1 (Fin.ext e)
    rw [if_pos hjc, if_pos ⟨hjc.1, by omega⟩]
  · rw [if_neg hjc, if_neg fun h' => hjc ⟨h'.1, by omega⟩]

/-- Signalling the device at distance `t` pays its tally. -/
theorem owedB_step (c j : Dev nD) (h : j ≠ c) : owedB c (dist c j) = owedB c (dist c j + 1) + tallyAt (readyCell j) () 1 := by
  unfold owedB
  rw [← Finset.add_sum_erase _ _ (Finset.mem_univ j), ← Finset.add_sum_erase (a := j) _ (fun i : Dev nD => if i ≠ c ∧ dist c j + 1 ≤ dist c i then _ else _) (Finset.mem_univ j),
    if_pos ⟨h, le_refl _⟩, if_neg (fun h' => absurd h'.2 (Nat.not_succ_le_self _)), zero_add, add_comm]
  refine congrArg (· + _) (Finset.sum_congr rfl fun i hi => ?_)
  have hne : dist c i ≠ dist c j := fun e => Finset.ne_of_mem_erase hi (dist_inj c i j e)
  by_cases hic : i ≠ c ∧ dist c j ≤ dist c i
  · rw [if_pos hic, if_pos ⟨hic.1, by omega⟩]
  · rw [if_neg hic, if_neg fun h' => hic ⟨h'.1, by omega⟩]

abbrev 𝒱₀ : Variants := Variants.none

end Cert.KernelIdealProof

end
-- ==== Proof.KernelIdealSteps.lean ====
/-
# One device's steps

Each operation of the kernel moves the device from one state to the next; a state is a conjunction of groups, one group for
each kind of thing the device holds (`Wst`: the chunks of `w`; `Sg`: the landing slots not yet handed out; `Sn`: the send
slots; `Pr`: the other devices' landing slots; `Rv`: what has landed; `Rb`: the landing slots; `Sw`: the send slots coming
back; `Out`: the result block; `Ow`: what is still owed). A group is indexed by how far the device has come.
-/
module

public import proofs.«01_k».proof.Proof.KernelIdealProto

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- Device `c` runs `p` to a state satisfying `Q`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## What every device knows -/

/-- Every cell's invariant, that every cell has reached its one round, and the levels. -/
def ctx (K : Dev nD × KK → ℕ) : sProp 𝕄 :=
  iprop((bigSep Finset.univ fun ck : Dev nD × KK => cellInv ER (Rd m) (K ck) (kcell ck))
    ∗ (bigSep Finset.univ fun ck : Dev nD × KK => reached ER (kcell ck) 0) ∗ levAts L lv)
instance ctx_persistent (K : Dev nD × KK → ℕ) : BI.Persistent (ctx m K) := by unfold ctx; infer_instance

variable (K : Dev nD × KK → ℕ)

omit [FloatOps F] in
/-- One summand of a conjunction that changes, the others not: the old one out, the new one back in. -/
theorem upd {I : Type} [Fintype I] [DecidableEq I] {Φ Ψ : I → sProp 𝕄} (i : I) (h : ∀ j, j ≠ i → Ψ j = Φ j) :
    bigSep Finset.univ Φ ⊢ iprop(Φ i ∗ (Ψ i -∗ bigSep Finset.univ Ψ)) := bigSep_univ_update i h

theorem inv_at (ck : Dev nD × KK) :
    (bigSep Finset.univ fun ck : Dev nD × KK => (cellInv ER (Rd m) (K ck) (kcell ck) : sProp 𝕄)) ⊢ cellInv ER (Rd m) (K ck) (kcell ck) :=
  bigSep_elim (Finset.mem_univ ck)
omit [FloatOps F] in
theorem reached_at (ck : Dev nD × KK) :
    (bigSep Finset.univ fun ck : Dev nD × KK => (reached ER (kcell ck) 0 : sProp 𝕄)) ⊢ reached ER (kcell ck) 0 :=
  bigSep_elim (Finset.mem_univ ck)
theorem ctx_inv (ck : Dev nD × KK) : ctx m K ⊢ cellInv ER (Rd m) (K ck) (kcell ck) := by
  unfold ctx; iintro ⟨#H, -, -⟩; iapply (inv_at m K ck); iexact H
theorem ctx_reached (ck : Dev nD × KK) : ctx m K ⊢ reached ER (kcell ck) 0 := by
  unfold ctx; iintro ⟨-, #H, -⟩; iapply (reached_at (F := F) ck); iexact H
theorem ctx_lev : ctx m K ⊢ (levAts L lv : sProp 𝕄) := by
  unfold ctx; iintro ⟨-, -, #H⟩; iexact H

variable (c : Dev nD)

theorem ctx_mayWait (q : SemLoc sig) (hq : q ≠ .dma recvS) (hq' : q ≠ .reg readyS) (d t : ℕ) :
    ctx m K ⊢ (MayWait (c : Thread nD τ) q () (owedR c d + owedB c t) : sProp 𝕄) := (ctx_lev m K).trans (mayWait_low c q hq hq' d t)
theorem ctx_mayWait_ready (d : ℕ) : ctx m K ⊢ (MayWait (c : Thread nD τ) (.reg readyS) () (owedR c d + owedB c 16) : sProp 𝕄) :=
  (ctx_lev m K).trans (mayWait_ready c d)

/-- What device `c` owes having sent blocks `< d` and signalled the devices at distance `< t`. -/
def Ow (d t : ℕ) : sProp 𝕄 := iprop(∃ W : Waits sig Unit, owes (c : Thread nD τ) (owedR c d + owedB c t) W)

theorem dist_self : ∀ c : Dev nD, dist c c = 0 := by unfold dist; decide
omit [FloatOps F] in
theorem Ow_start : Ow (F := F) c 0 0 ⊢ Ow c 0 1 := by
  unfold Ow
  rw [show owedB c 0 = owedB c 1 from Finset.sum_congr rfl fun j _ => by
    by_cases h : j = c
    · rw [if_neg (fun h' => h'.1 h), if_neg (fun h' => h'.1 h)]
    · have : dist c j ≠ 0 := fun e => h (dist_inj c j c (e.trans (dist_self c).symm))
      by_cases h0 : 0 ≤ dist c j
      · rw [if_pos ⟨h, h0⟩, if_pos ⟨h, by omega⟩]
      · omega]

theorem x_ne_recv : (SemLoc.dma xS : SemLoc sig) ≠ .dma recvS := fun h => absurd (ownSemFacts.inj (a₁ := kX) (a₂ := kRecv) h) (by decide)
theorem w_ne_recv (j : Fin 8) : (SemLoc.dma (wS j) : SemLoc sig) ≠ .dma recvS := fun h => by
  have := ownSemFacts.inj (a₁ := kW j) (a₂ := kRecv) h; cases this

theorem xN_eq : xN = (xvM : Memref sig .tc .vmem S256x4096 .f32).view.dmaCredit := by unfold xN; rfl
theorem wN_eq (j : Fin 8) : wN = (wvSl j).view.dmaCredit := by unfold wN; rfl
theorem N_eq (d : Dev nD) : N = (rSlot d).view.dmaCredit := by unfold N; rfl
theorem N_eq' (d : Dev nD) : N = (sSlot d).view.dmaCredit := by unfold N; rfl

/-! ## The copy of `x` -/

section X
variable {α : Type} {k : PUnit → Prog (TpuEff nD τ sig (Elt F) Λ₀ .tc) α}

omit [FloatOps F] in
theorem x_landed (fd : Buf (Elt F) ((xvM : Memref sig .tc .vmem S256x4096 .f32).view.loc (c : Thread nD τ)))
    (fs : (main_arg0 : Ref sig .tc).ty.Contents (Elt F)) :
    (xvM : Memref sig .tc .vmem S256x4096 .f32).view.write (Elt F) fd ((xM : Memref sig .tc .hbm S256x4096 .f32).view.read (Elt F) fs) Finset.univ = fs := by
  show (View.whole cc0_scratch0).write (Elt F) fd ((View.whole main_arg0).read (Elt F) fs) Finset.univ = fs
  rw [View.read_whole]; exact View.write_whole_univ _ _ _

/-- The copy of `x` is started: its token, the rows and the room for them go in, the credit comes out. -/
theorem x_start {Φ : α → sProp 𝕄} {hsrc : (xM : Memref sig .tc .hbm S256x4096 .f32).view.WordExact} {hdst : (xvM : Memref sig .tc .vmem S256x4096 .f32).view.WordExact}
    {hsem : DmaTarget.Typed (nD := nD) (τ := τ) (p := .tc) .hbm (.dma xS) (.here xvM)} :
    iprop(ctx m K ∗ xPts m c ∗ (∃ f, xvPts c f) ∗ dutyTok ER (xCell c) 0 c)
      ⊢ iprop((cred (tallyAt (xCell c) () xN) -∗ WP c (k ⟨⟩) Φ) -∗ WP c (.op (.enqueueDma xM (.here xvM) (.dma xS) hsrc hdst hsem) k) Φ) := by
  iintro ⟨#HC, Hx, ⟨%f, Hv⟩, Ht⟩ Hk
  have hd : c ∈ (Rd (F := F) m).duties (xCell c) 0 := by rw [duties_x]; exact Finset.mem_singleton_self _
  have hN : (xvM : Memref sig .tc .vmem S256x4096 .f32).view.amount (.dma xS) = xN := xN_eq.symm
  have hpay : iprop(((xvM : Memref sig .tc .vmem S256x4096 .f32).view.loc (c : Thread nD τ) ↦[(xvM : Memref sig .tc .vmem S256x4096 .f32).view.set]{fullShare}
        ((xvM : Memref sig .tc .vmem S256x4096 .f32).view.write (Elt F) f ((xM : Memref sig .tc .hbm S256x4096 .f32).view.read (Elt F) (m ((c : Thread nD τ).loc main_arg0))) Finset.univ))
      ∗ ((xM : Memref sig .tc .hbm S256x4096 .f32).view.loc (c : Thread nD τ) ↦[(xM : Memref sig .tc .hbm S256x4096 .f32).view.set]{fullShare} m ((c : Thread nD τ).loc main_arg0)))
      ⊢ (Rd (F := F) m).payload (xCell c) 0 c := by
    rw [payload_x, x_landed]; unfold xPay xvPts xPts xc; exact BI.Entails.refl _
  iapply (Rounds.wp_copy_pointsTo 𝒱₀ ER (Rd m) (c : Thread nD τ) none (src := xM) (dst := xvM) (sem := .dma xS) (κ := K (c, kX)) (r := 0) (d := c) (fd := f)
    (fs := m ((c : Thread nD τ).loc main_arg0)) (q := fullShare)
    hd () xN hN (amount_x m c c) hpay) $$ [Hx Hv Ht]
  · isplitr; · iapply (ctx_inv m K (c, kX)); iexact HC
    unfold xPts xvPts
    isplitl [Hx]; · iexact Hx
    isplitl [Hv]; · iexact Hv
    isplitl [Ht]; · iexact Ht
    iapply (ctx_reached m K (c, kX)); iexact HC
  iexact Hk

/-- The wait for it: the copy holds the rows. -/
theorem x_wait {Φ : α → sProp 𝕄} {hsrc : (xM : Memref sig .tc .hbm S256x4096 .f32).view.WordExact} {hdst : (xvM : Memref sig .tc .vmem S256x4096 .f32).view.WordExact} (d t : ℕ) :
    iprop(ctx m K ∗ cred (tallyAt (xCell c) () xN) ∗ atPos ER (xCell c) 0 ∅ 0 ∗ Ow c d t)
      ⊢ iprop(((xPay m c ∗ atPos ER (xCell c) 1 ∅ 0 ∗ Ow c d t) -∗ WP c (k ⟨⟩) Φ) -∗ WP c (.op (.waitDma2 xS xM xvM hsrc hdst) k) Φ) := by
  unfold Ow
  iintro ⟨#HC, Hc, Hat, ⟨%W, HO⟩⟩ Hk
  iapply (Rounds.wp_wait_rest_token 𝒱₀ ER (Rd m) (c : Thread nD τ) none (κ := K (c, kX))
      (wpE_waitDma2_eq 𝒱₀ (c : Thread nD τ) none Set.univ) (Set.mem_univ _) () (O := owedR c d + owedB c t) (W := W) (R := 0) (m := 0) (T := ∅)
      ((Nat.zero_add _).trans (by rw [expect_x]; exact xN_eq.symm))) $$ [Hc HO Hat]
  · isplitr; · iapply (ctx_inv m K (c, kX)); iexact HC
    isplitl [Hc]; · rw [← xN_eq]; iexact Hc
    isplitl [HO]; · iexact HO
    isplitr
    · iapply (ctx_mayWait m K c (.dma xS) x_ne_recv (fun h => by cases h) d t); iexact HC
    iexact Hat
  iintro ⟨HO, Hat, -, Hpay⟩
  iapply Hk
  isplitl [Hpay]
  · iapply (Entails.of_eq (show bigSep ((Rd (F := F) m).duties (xCell c) 0 \ ∅) (fun u => (Rd (F := F) m).payload (xCell c) 0 u) = xPay m c by
      rw [Finset.sdiff_empty, duties_x, bigSep_singleton, payload_x])); iexact Hpay
  isplitl [Hat]; · iexact Hat
  iexists _; iexact HO

theorem hz2 : (![0, 0] : Fin 2 → Nat) = fun _ => 0 := funext fun a => by fin_cases a <;> rfl

/-- The load of the rows. -/
theorem x_load {Φ : α → sProp 𝕄} {k : Vec F S256x4096 .f32 → Prog (TpuEff nD τ sig (Elt F) Λ₀ .tc) α} {i}
    {hl : (xvM : Memref sig .tc .vmem S256x4096 .f32).view.LoadsAt (Rect.unit (s := S256x4096) ![0, 0] S256x4096.size i).toLoadRect} :
    xPay m c
      ⊢ iprop((xPay m c -∗ WP c (k (xc m c)) Φ) -∗ WP c (.op (.load xvM (Rect.unit (s := S256x4096) ![0, 0] S256x4096.size i).toLoadRect hl) k) Φ) := by
  unfold xPay
  iintro ⟨Hv, Hx⟩ Hk
  unfold xvPts
  iapply (wp_load 𝒱₀ (c : Thread nD τ) none Set.univ (m := xvM) (by rw [View.set_whole]; exact Finset.subset_univ _)) $$ Hv
  iintro Hv
  rw [show (xvM : Memref sig .tc .vmem S256x4096 .f32).view.readAt (Elt F) (Rect.unit (s := S256x4096) ![0, 0] S256x4096.size i).toLoadRect (xc m c) = xc m c from
    Memref.readAt_unit_zero (Elt F) cc0_scratch0 hz2 _ _]
  iapply Hk
  isplitl [Hv] <;> iassumption

end X

/-! ## The copies of `w` -/

/-- Columns `256 j …` of `w` before their copy, while it is under way, and when it has been waited for. -/
def wPre (j : Fin 8) : sProp 𝕄 := iprop(wPts m c j ∗ (∃ f, wvPts c j f) ∗ dutyTok ER (wCell c j) 0 c ∗ atPos ER (wCell c j) 0 ∅ 0)
def wFly (j : Fin 8) : sProp 𝕄 := iprop(cred (tallyAt (wCell c j) () wN) ∗ atPos ER (wCell c j) 0 ∅ 0)
def wDone (j : Fin 8) : sProp 𝕄 := iprop(wPay m c j ∗ atPos ER (wCell c j) 1 ∅ 0)
def wAt (a b : ℕ) (j : Fin 8) : sProp 𝕄 := if j.val < b then wDone m c j else if j.val < a then wFly c j else wPre m c j
/-- The copies `< a` are started, those `< b` waited for. -/
def Wst (a b : ℕ) : sProp 𝕄 := bigSep Finset.univ (wAt m c a b)

theorem Wst_start (j : Fin 8) (b : ℕ) (hb : b ≤ j.val) : Wst m c j.val b ⊢ iprop(wPre m c j ∗ (wFly c j -∗ Wst m c (j.val + 1) b)) := by
  have h := upd (F := F) (Φ := wAt m c j.val b) (Ψ := wAt m c (j.val + 1) b) j (fun i hi => by
    have hne : i.val ≠ j.val := fun e => hi (Fin.ext e)
    unfold wAt
    by_cases h : i.val < j.val
    · rw [if_pos h, if_pos (Nat.lt_succ_of_lt h)]
    · rw [if_neg h, if_neg (by omega : ¬ i.val < j.val + 1)])
  have h1 : wAt m c j.val b j = wPre m c j := by unfold wAt; rw [if_neg (by omega), if_neg (Nat.lt_irrefl _)]
  have h2 : wAt m c (j.val + 1) b j = wFly c j := by unfold wAt; rw [if_neg (by omega), if_pos (Nat.lt_succ_self _)]
  rw [h1, h2] at h
  exact h
theorem Wst_wait (j : Fin 8) (a : ℕ) (ha : j.val < a) : Wst m c a j.val ⊢ iprop(wFly c j ∗ (wDone m c j -∗ Wst m c a (j.val + 1))) := by
  have h := upd (F := F) (Φ := wAt m c a j.val) (Ψ := wAt m c a (j.val + 1)) j (fun i hi => by
    have hne : i.val ≠ j.val := fun e => hi (Fin.ext e)
    unfold wAt
    by_cases h : i.val < j.val
    · rw [if_pos h, if_pos (Nat.lt_succ_of_lt h)]
    · rw [if_neg h, if_neg (by omega : ¬ i.val < j.val + 1)])
  have h1 : wAt m c a j.val j = wFly c j := by unfold wAt; rw [if_neg (Nat.lt_irrefl _), if_pos ha]
  have h2 : wAt m c a (j.val + 1) j = wDone m c j := by unfold wAt; rw [if_pos (Nat.lt_succ_self _)]
  rw [h1, h2] at h
  exact h
theorem Wst_done (j : Fin 8) (a b : ℕ) (hb : j.val < b) : Wst m c a b ⊢ iprop(wDone m c j ∗ (wDone m c j -∗ Wst m c a b)) := by
  have h := upd (F := F) (Φ := wAt m c a b) (Ψ := wAt m c a b) j (fun i hi => rfl)
  have h1 : wAt m c a b j = wDone m c j := by unfold wAt; rw [if_pos hb]
  rw [h1] at h
  exact h

section W
variable {α : Type} {k : PUnit → Prog (TpuEff nD τ sig (Elt F) Λ₀ .tc) α}

theorem w_landed (j : Fin 8) (fd : Buf (Elt F) ((wvSl j).view.loc (c : Thread nD τ))) (fs : Buf (Elt F) ((wSl j).view.loc (c : Thread nD τ))) :
    (wvSl j).view.read (Elt F) ((wvSl j).view.write (Elt F) fd ((wSl j).view.read (Elt F) fs) Finset.univ) = (wSl j).view.read (Elt F) fs :=
  View.read_write_univ _ _

/-- The copy of columns `256 j …` of `w` is started. -/
theorem w_start {Φ : α → sProp 𝕄} (j : Fin 8) (b : ℕ) (hb : b ≤ j.val) {hsrc : (wSl j).view.WordExact} {hdst : (wvSl j).view.WordExact}
    {hsem : DmaTarget.Typed (nD := nD) (τ := τ) (p := .tc) .hbm (.dma (wS j)) (.here (wvSl j))} :
    iprop(ctx m K ∗ Wst m c j.val b)
      ⊢ iprop((Wst m c (j.val + 1) b -∗ WP c (k ⟨⟩) Φ) -∗ WP c (.op (.enqueueDma (wSl j) (.here (wvSl j)) (.dma (wS j)) hsrc hdst hsem) k) Φ) := by
  iintro ⟨#HC, HW⟩ Hk
  ihave H := (Wst_start m c j b hb) $$ HW
  unfold wPre wFly
  icases H with ⟨⟨Hw, ⟨%f, Hv⟩, Ht, Hat⟩, Hback⟩
  have hd : c ∈ (Rd (F := F) m).duties (wCell c j) 0 := by rw [duties_w]; exact Finset.mem_singleton_self _
  have hN : (wvSl j).view.amount (.dma (wS j)) = wN := (wN_eq j).symm
  have hpay : iprop(((wvSl j).view.loc (c : Thread nD τ) ↦[(wvSl j).view.set]{fullShare}
        ((wvSl j).view.write (Elt F) f ((wSl j).view.read (Elt F) (m ((c : Thread nD τ).loc main_arg1))) Finset.univ))
      ∗ ((wSl j).view.loc (c : Thread nD τ) ↦[(wSl j).view.set]{fullShare} m ((c : Thread nD τ).loc main_arg1)))
      ⊢ (Rd (F := F) m).payload (wCell c j) 0 c := by
    rw [payload_w]; unfold wPay wvPts wPts
    iintro ⟨Hv, Hw⟩
    isplitl [Hv]
    · iexists _
      isplitr
      · ipureintro; exact w_landed c j f _
      iexact Hv
    iexact Hw
  iapply (Rounds.wp_copy_pointsTo 𝒱₀ ER (Rd m) (c : Thread nD τ) none (src := wSl j) (dst := wvSl j) (sem := .dma (wS j)) (κ := K (c, kW j)) (r := 0) (d := c) (fd := f)
    (fs := m ((c : Thread nD τ).loc main_arg1)) (q := fullShare)
    hd () wN hN (amount_w m c j c) hpay) $$ [Hw Hv Ht]
  · isplitr; · iapply (ctx_inv m K (c, kW j)); iexact HC
    unfold wPts wvPts
    isplitl [Hw]; · iexact Hw
    isplitl [Hv]; · iexact Hv
    isplitl [Ht]; · iexact Ht
    iapply (ctx_reached m K (c, kW j)); iexact HC
  iintro Hc
  iapply Hk
  iapply Hback
  isplitl [Hc] <;> iassumption

/-- The wait for it. -/
theorem w_wait {Φ : α → sProp 𝕄} (j : Fin 8) (a : ℕ) (ha : j.val < a) (d t : ℕ) {hsrc : (wSl j).view.WordExact} {hdst : (wvSl j).view.WordExact} :
    iprop(ctx m K ∗ Wst m c a j.val ∗ Ow c d t)
      ⊢ iprop(((Wst m c a (j.val + 1) ∗ Ow c d t) -∗ WP c (k ⟨⟩) Φ) -∗ WP c (.op (.waitDma2 (wS j) (wSl j) (wvSl j) hsrc hdst) k) Φ) := by
  unfold Ow
  iintro ⟨#HC, HW, ⟨%W, HO⟩⟩ Hk
  ihave H := (Wst_wait m c j a ha) $$ HW
  unfold wFly wDone
  icases H with ⟨⟨Hc, Hat⟩, Hback⟩
  have hk : 0 + (wvSl j).view.dmaCredit = (Rd (F := F) m).expect (wCell c j) 0 := (Nat.zero_add _).trans (by rw [expect_w]; exact (wN_eq j).symm)
  iapply (Rounds.wp_wait_rest_token 𝒱₀ ER (Rd m) (c : Thread nD τ) none (κ := K (c, kW j))
      (wpE_waitDma2_eq 𝒱₀ (c : Thread nD τ) none Set.univ) (Set.mem_univ _) () (O := owedR c d + owedB c t) (W := W) (R := 0) (m := 0) (T := ∅) hk) $$ [Hc HO Hat]
  · isplitr; · iapply (ctx_inv m K (c, kW j)); iexact HC
    isplitl [Hc]; · rw [← wN_eq]; iexact Hc
    isplitl [HO]; · iexact HO
    isplitr
    · iapply (ctx_mayWait m K c (.dma (wS j)) (w_ne_recv j) (fun h => by cases h) d t); iexact HC
    iexact Hat
  iintro ⟨HO, Hat, -, Hpay⟩
  iapply Hk
  isplitr [HO]
  · iapply Hback
    isplitl [Hpay]
    · iapply (Entails.of_eq (show bigSep ((Rd (F := F) m).duties (wCell c j) 0 \ ∅) (fun u => (Rd (F := F) m).payload (wCell c j) 0 u) = wPay m c j by
        rw [Finset.sdiff_empty, duties_w, bigSep_singleton, payload_w])); iexact Hpay
    iexact Hat
  iexists _; iexact HO

/-- The load of the columns. -/
theorem w_load {k : Vec F S4096x256 .f32 → Prog (TpuEff nD τ sig (Elt F) Λ₀ .tc) α} {Φ : α → sProp 𝕄} (j : Fin 8) (a b : ℕ) (hb : j.val < b)
    {hl : (wvM : Memref sig .tc .vmem S4096x2048 .f32).view.LoadsAt (chunkR j).toLoadRect} :
    Wst m c a b
      ⊢ iprop((Wst m c a b -∗ WP c (k (wc m c j)) Φ) -∗ WP c (.op (.load wvM (chunkR j).toLoadRect hl) k) Φ) := by
  iintro HW Hk
  ihave H := (Wst_done m c j a b hb) $$ HW
  unfold wDone wPay
  icases H with ⟨⟨⟨⟨%f, %hf, Hv⟩, Hw⟩, Hat⟩, Hback⟩
  unfold wvPts
  iapply (wp_load_rect 𝒱₀ (c : Thread nD τ) none Set.univ (m := wvM) (r := chunkR j) (S := (wvSl j).view.set) (f := f) (q := fullShare) (Finset.Subset.refl _)) $$ Hv
  iintro Hv
  rw [show (wvM.access (chunkR j)).read (Elt F) f = wc m c j from hf]
  iapply Hk
  iapply Hback
  isplitr [Hat]
  · isplitl [Hv]
    · iexists f
      isplitr
      · ipureintro; exact hf
      iexact Hv
    iexact Hw
  iexact Hat

end W

end Cert.KernelIdealProof

end
-- ==== Proof.KernelIdealSends.lean ====
/-
# Signalling and sending

The steps that hand out the landing slots, wait for the other devices' slots, fill the send slots and start the transfers.
-/
module

public import proofs.«01_k».proof.Proof.KernelIdealSteps
public import Idealize.ShloMosaic.Lib.Pipeline.Value

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × KK → ℕ) (c : Dev nD)

/-! ## Handing out the landing slots -/

/-- The landing slots not yet handed out, when the devices at distance `< t` have been signalled; the device keeps its own. -/
def sgAt (t : ℕ) (j : Dev nD) : sProp 𝕄 :=
  if j = c then rAny c c else if dist c j < t then iprop(emp) else iprop(rAny c j ∗ dutyTok ER (readyCell j) 0 c)
def Sg (t : ℕ) : sProp 𝕄 := bigSep Finset.univ (sgAt (F := F) c t)

omit [FloatOps F] in
theorem Sg_step (j : Dev nD) (hj : j ≠ c) :
    Sg (F := F) c (dist c j) ⊢ iprop((rAny c j ∗ dutyTok ER (readyCell j) 0 c) ∗ (emp -∗ Sg c (dist c j + 1))) := by
  have h := upd (F := F) (Φ := sgAt c (dist c j)) (Ψ := sgAt c (dist c j + 1)) j (fun i hi => by
    have hne : dist c i ≠ dist c j := fun e => hi (dist_inj c i j e)
    unfold sgAt
    by_cases hc : i = c
    · rw [if_pos hc, if_pos hc]
    · rw [if_neg hc, if_neg hc]
      by_cases h : dist c i < dist c j
      · rw [if_pos h, if_pos (Nat.lt_succ_of_lt h)]
      · rw [if_neg h, if_neg (by omega : ¬ dist c i < dist c j + 1)])
  have h1 : sgAt (F := F) c (dist c j) j = iprop(rAny c j ∗ dutyTok ER (readyCell j) 0 c) := by unfold sgAt; rw [if_neg hj, if_neg (Nat.lt_irrefl _)]
  have h2 : sgAt (F := F) c (dist c j + 1) j = iprop(emp) := by unfold sgAt; rw [if_neg hj, if_pos (Nat.lt_succ_self _)]
  rw [h1, h2] at h
  exact h

section S
variable {α : Type} {k : PUnit → Prog (TpuEff nD τ sig (Elt F) Λ₀ .tc) α}

/-- The device at distance `t` is signalled: its landing slot here goes with the signal. -/
theorem signal {Φ : α → sProp 𝕄} (j : Dev nD) (t : ℕ) (hj : j ≠ c) (ht : dist c j = t) (n : ℕ) (hn : n = 1) :
    iprop(ctx m K ∗ Sg c t ∗ Ow c 0 t)
      ⊢ iprop(((Sg c (t + 1) ∗ Ow c 0 (t + 1)) -∗ WP c (k ⟨⟩) Φ) -∗ WP c (.op (.semSignal (j : Thread nD τ) readyS n) k) Φ) := by
  subst ht hn
  unfold Ow
  iintro ⟨#HC, HS, ⟨%W, HO⟩⟩ Hk
  ihave H := (Sg_step c j hj) $$ HS
  icases H with ⟨⟨Hr, Ht⟩, Hback⟩
  have hd : c ∈ (Rd (F := F) m).duties (readyCell j) 0 := by rw [duties_ready]; exact Finset.mem_erase.2 ⟨fun e => hj e.symm, Finset.mem_univ _⟩
  have hO : owedR c 0 + owedB c (dist c j) = (owedR c 0 + owedB c (dist c j + 1)) + tallyAt (readyCell j) () 1 := by
    rw [owedB_step c j hj, add_assoc]
  iapply (Rounds.wp_signal 𝒱₀ ER (Rd m) (c : Thread nD τ) none (dst := (j : Thread nD τ)) (sem := readyS) (κ := K (j, kReady)) hd (amount_ready m j c) ()
      (owedR c 0 + owedB c (dist c j + 1)) hO) $$ [HO Ht Hr]
  · isplitr; · iapply (ctx_inv m K (j, kReady)); iexact HC
    isplitl [HO]; · iexact HO
    isplitl [Ht]; · iexact Ht
    isplitl [Hr]; · rw [payload_ready]; iexact Hr
    iapply (ctx_reached m K (j, kReady)); iexact HC
  iintro HO
  iapply Hk
  isplitl [Hback]
  · iapply Hback; iempintro
  iexists _; iexact HO

/-- The other devices' landing slots this device has still to fill, blocks `< d` being sent. -/
def prAt (d : ℕ) (j : Dev nD) : sProp 𝕄 := if j = c ∨ j.val < d then iprop(emp) else rAny j c
def Pr (d : ℕ) : sProp 𝕄 := bigSep Finset.univ (prAt (F := F) c d)

omit [FloatOps F] in
theorem Pr_intro : (bigSep (Finset.univ.erase c) fun j => (rAny j c : sProp 𝕄)) ⊢ Pr c 0 := by
  unfold Pr
  rw [bigSep_univ_at _ c, show prAt (F := F) c 0 c = iprop(emp) from if_pos (.inl rfl),
    bigSep_congr (s := Finset.univ.erase c) (Φ := prAt (F := F) c 0) (Ψ := fun j => rAny j c) fun j hj => by
      unfold prAt; rw [if_neg]; intro h; rcases h with h | h
      · exact Finset.ne_of_mem_erase hj h
      · exact absurd h (Nat.not_lt_zero _)]
  iintro H
  isplitr; · iempintro
  iexact H

omit [FloatOps F] in
theorem Pr_step (d : Dev nD) (hd : d ≠ c) : Pr (F := F) c d.val ⊢ iprop(rAny d c ∗ (emp -∗ Pr c (d.val + 1))) := by
  have h := upd (F := F) (Φ := prAt c d.val) (Ψ := prAt c (d.val + 1)) d (fun i hi => by
    have hne : i.val ≠ d.val := fun e => hi (Fin.ext e)
    unfold prAt
    by_cases h : i = c ∨ i.val < d.val
    · rw [if_pos h, if_pos (h.imp_right Nat.lt_succ_of_lt)]
    · rw [if_neg h, if_neg (fun h' => h (h'.imp_right fun _ => by omega))])
  have h1 : prAt (F := F) c d.val d = rAny d c := by unfold prAt; rw [if_neg]; exact fun h => h.elim hd (Nat.lt_irrefl _)
  have h2 : prAt (F := F) c (d.val + 1) d = iprop(emp) := by unfold prAt; rw [if_pos (.inr (Nat.lt_succ_self _))]
  rw [h1, h2] at h
  exact h
omit [FloatOps F] in
theorem Pr_skip : Pr (F := F) c c.val = Pr c (c.val + 1) := by
  unfold Pr
  refine bigSep_congr fun i _ => ?_
  unfold prAt
  by_cases h : i = c ∨ i.val < c.val
  · rw [if_pos h, if_pos (h.imp_right Nat.lt_succ_of_lt)]
  · have hne : i.val ≠ c.val := fun e => h (.inl (Fin.ext e))
    rw [if_neg h, if_neg (fun h' => h (h'.imp_right fun _ => by omega))]

/-- The wait for the fifteen others' signals. -/
theorem barrier {Φ : α → sProp 𝕄} (n : ℕ) (hn : n = 15) :
    iprop(ctx m K ∗ cred (tallyAt (readyCell c) () 15) ∗ atPos ER (readyCell c) 0 ∅ 0 ∗ Ow c 0 16)
      ⊢ iprop(((Pr c 0 ∗ atPos ER (readyCell c) 1 ∅ 0 ∗ Ow c 0 16) -∗ WP c (k ⟨⟩) Φ) -∗ WP c (.op (.semWait readyS n) k) Φ) := by
  subst hn
  unfold Ow
  iintro ⟨#HC, Hc, Hat, ⟨%W, HO⟩⟩ Hk
  have hk : 0 + 15 = (Rd (F := F) m).expect (readyCell c) 0 := by rw [expect_ready]
  iapply (Rounds.wp_wait_rest_token 𝒱₀ ER (Rd m) (c : Thread nD τ) none (κ := K (c, kReady))
      (wpE_semWait_eq 𝒱₀ (c : Thread nD τ) none Set.univ) (Set.mem_univ _) () (O := owedR c 0 + owedB c 16) (W := W) (R := 0) (m := 0) (T := ∅) hk) $$ [Hc HO Hat]
  · isplitr; · iapply (ctx_inv m K (c, kReady)); iexact HC
    isplitl [Hc]; · iexact Hc
    isplitl [HO]; · iexact HO
    isplitr
    · iapply (ctx_mayWait_ready m K c 0); iexact HC
    iexact Hat
  iintro ⟨HO, Hat, -, Hpay⟩
  iapply Hk
  isplitl [Hpay]
  · iapply (Pr_intro (F := F) c)
    iapply (Entails.of_eq (show bigSep ((Rd (F := F) m).duties (readyCell c) 0 \ ∅) (fun u => (Rd (F := F) m).payload (readyCell c) 0 u)
        = bigSep (Finset.univ.erase c) fun j => rAny j c by
      rw [Finset.sdiff_empty, duties_ready]; exact bigSep_congr fun j _ => payload_ready m c j)); iexact Hpay
  isplitl [Hat]; · iexact Hat
  iexists _; iexact HO

end S

/-! ## The send slots -/

/-- The tokens of the transfer of block `j`. -/
def sTok (j : Dev nD) : sProp 𝕄 := if j = c then iprop(emp) else iprop(dutyTok ER (sendCell c j) 0 c ∗ dutyTok ER (recvCell j) 0 c)
/-- Send slot `j` before it is filled, when it is, and when its transfer has been started. -/
def snRaw (j : Dev nD) : sProp 𝕄 := iprop(sAny c j ∗ sTok c j)
def snFull (j : Dev nD) : sProp 𝕄 := iprop(sHas c j (snd m c j) ∗ sTok c j)
def snSent (j : Dev nD) : sProp 𝕄 := if j = c then sAny c c else cred (tallyAt (sendCell c j) () N)
def snAt (p : ℕ) (j : Dev nD) : sProp 𝕄 := if 2 * j.val + 1 < p then snSent c j else if 2 * j.val + 1 = p then snFull m c j else snRaw c j
/-- The send slots: `2 d` when those `< d` have been dealt with, `2 d + 1` when slot `d` is filled besides. -/
def Sn (p : ℕ) : sProp 𝕄 := bigSep Finset.univ (snAt m c p)

theorem Sn_store (d : Dev nD) : Sn m c (2 * d.val) ⊢ iprop(snRaw c d ∗ (snFull m c d -∗ Sn m c (2 * d.val + 1))) := by
  have h := upd (F := F) (Φ := snAt m c (2 * d.val)) (Ψ := snAt m c (2 * d.val + 1)) d (fun i hi => by
    have hne : i.val ≠ d.val := fun e => hi (Fin.ext e)
    unfold snAt
    by_cases h : i.val < d.val
    · rw [if_pos (by omega), if_pos (by omega)]
    · rw [if_neg (by omega), if_neg (by omega), if_neg (by omega), if_neg (by omega)])
  have h1 : snAt m c (2 * d.val) d = snRaw c d := by unfold snAt; rw [if_neg (by omega), if_neg (by omega)]
  have h2 : snAt m c (2 * d.val + 1) d = snFull m c d := by unfold snAt; rw [if_neg (by omega), if_pos rfl]
  rw [h1, h2] at h
  exact h
theorem Sn_send (d : Dev nD) : Sn m c (2 * d.val + 1) ⊢ iprop(snFull m c d ∗ (snSent c d -∗ Sn m c (2 * d.val + 2))) := by
  have h := upd (F := F) (Φ := snAt m c (2 * d.val + 1)) (Ψ := snAt m c (2 * d.val + 2)) d (fun i hi => by
    have hne : i.val ≠ d.val := fun e => hi (Fin.ext e)
    unfold snAt
    by_cases h : i.val < d.val
    · rw [if_pos (by omega), if_pos (by omega)]
    · rw [if_neg (by omega), if_neg (by omega), if_neg (by omega), if_neg (by omega)])
  have h1 : snAt m c (2 * d.val + 1) d = snFull m c d := by unfold snAt; rw [if_neg (by omega), if_pos rfl]
  have h2 : snAt m c (2 * d.val + 2) d = snSent c d := by unfold snAt; rw [if_pos (by omega)]
  rw [h1, h2] at h
  exact h

section S2
variable {α : Type} {r : Prog (TpuEff nD τ sig (Elt F) Λ₀ .tc) α}

omit [FloatOps F] in
theorem sSlot_set (d : Dev nD) : (sSlot d).view.set = (sM.access (slotR d)).set := View.set_reshape _ _
omit [FloatOps F] in
theorem rSlot_set (d : Dev nD) : (rSlot d).view.set = (rM.access (slotR d)).set := View.set_reshape _ _

omit [FloatOps F] in
theorem stored (d : Dev nD) (f : Buf (Elt F) ((sSlot d).view.loc (c : Thread nD τ))) (v : FVec F S256x128 .bf16) :
    (sSlot d).view.read (Elt F) ((sM.access (slotR d)).write (Elt F) f (shapeCast S1x256x128 v shapeCasts_S256x128_S1x256x128) Finset.univ) = v := by
  show shapeCast S256x128 ((sM.access (slotR d)).read (Elt F) ((sM.access (slotR d)).write (Elt F) f (shapeCast S1x256x128 v shapeCasts_S256x128_S1x256x128) Finset.univ)) shapeCasts_S1x256x128_S256x128 = v
  rw [View.read_write_univ]
  exact shapeCast_shapeCast _ _ _

/-- Send slot `d` is filled with block `d`. -/
theorem fill {Φ : α → sProp 𝕄} (d : Dev nD) (w : FVec F S1x256x128 .bf16) (hw : w = shapeCast S1x256x128 (snd m c d) shapeCasts_S256x128_S1x256x128)
    {hl : (sM : Memref sig .tc .vmem S16x256x128 .bf16).view.LoadsAt (slotR d).toLoadRect} {hx : (sM.access (slotR d)).Stores Finset.univ} {hm} :
    Sn m c (2 * d.val)
      ⊢ iprop((Sn m c (2 * d.val + 1) -∗ WP c r Φ)
          -∗ WP c (.op (.load sM (slotR d).toLoadRect hl) fun _ => .op (.store sM (slotR d) w Finset.univ hx hm) fun _ => r) Φ) := by
  subst hw
  iintro HS Hk
  ihave H := (Sn_store m c d) $$ HS
  unfold snRaw sAny snFull sHas
  icases H with ⟨⟨⟨%f, Hs⟩, Ht⟩, Hback⟩
  unfold sPts
  iapply (wp_load_rect 𝒱₀ (c : Thread nD τ) none Set.univ (m := sM) (r := slotR d) (S := (sSlot d).view.set) (f := f) (q := fullShare) (Finset.Subset.antisymm_iff.1 (sSlot_set d)).2) $$ Hs
  iintro Hs
  iapply (wp_store 𝒱₀ (c : Thread nD τ) none Set.univ (m := sM) (r := slotR d) (Mk := Finset.univ) (S := (sSlot d).view.set) (f := f) (Finset.Subset.antisymm_iff.1 (sSlot_set d)).2) $$ Hs
  iintro Hs
  iapply Hk
  iapply Hback
  isplitl [Hs]
  · iexists _
    isplitr
    · ipureintro; exact stored c d f _
    iexact Hs
  iexact Ht

/-- The transfer of block `d`, which is made unless `d` is the device itself. -/
theorem send_if {Φ : α → sProp 𝕄} (d : Dev nD) (p : Prop) [Decidable p] (hp : p ↔ d ≠ c) (e : ℕ) (he : e = d.val) (hlt : p → e < nD)
    (o : Fin 3 → ℕ) (ho : o = ![c.val, 0, 0]) (hi : p → ∀ a, o a + S1x256x128.size a ≤ S16x256x128.size a)
    (hst : ∀ h : p, ∀ a, (Rect.unit (s := S16x256x128) o S1x256x128.size (hi h)).stride a = 1)
    (hsc : ∀ h : p, ((rM.slice (Rect.unit o S1x256x128.size (hi h)) (hst h)).squeeze S256x128 squeezes_S1x256x128_S256x128).view.ref.isScScratch = false)
    (hsrc : p → (sSlot d).view.WordExact)
    (hdst : ∀ h : p, ((rM.slice (Rect.unit o S1x256x128.size (hi h)) (hst h)).squeeze S256x128 squeezes_S1x256x128_S256x128).view.WordExact)
    (hsem : ∀ h : p, DmaTarget.Typed (nD := nD) (τ := τ) (p := .tc) .vmem (.dma recvS) (.remote (Dev.tc (⟨e, hlt h⟩ : Dev nD))
      ((rM.slice (Rect.unit o S1x256x128.size (hi h)) (hst h)).squeeze S256x128 squeezes_S1x256x128_S256x128) (.dma (sendS d)) (hsc h))) :
    iprop(ctx m K ∗ Sn m c (2 * d.val + 1) ∗ Pr c d.val ∗ Ow c d.val 16)
      ⊢ iprop(((Sn m c (2 * d.val + 2) ∗ Pr c (d.val + 1) ∗ Ow c (d.val + 1) 16) -∗ WP c r Φ)
          -∗ WP c (if h : p then .op (.enqueueDma (sSlot d) (.remote (Dev.tc (⟨e, hlt h⟩ : Dev nD))
              ((rM.slice (Rect.unit o S1x256x128.size (hi h)) (hst h)).squeeze S256x128 squeezes_S1x256x128_S256x128) (.dma (sendS d)) (hsc h))
              (.dma recvS) (hsrc h) (hdst h) (hsem h)) fun _ => r
            else r) Φ) := by
  subst he ho
  iintro ⟨#HC, HS, HP, HO⟩ Hk
  ihave H := (Sn_send m c d) $$ HS
  icases H with ⟨Hf, Hback⟩
  by_cases h : p
  · have hd := hp.1 h
    rw [dif_pos h]
    have hsent : snSent (F := F) c d = cred (tallyAt (sendCell c d) () N) := if_neg hd
    have htok : sTok (F := F) c d = iprop(dutyTok ER (sendCell c d) 0 c ∗ dutyTok ER (recvCell d) 0 c) := if_neg hd
    rw [hsent]
    unfold snFull sHas
    rw [htok]
    ihave H := (Pr_step (F := F) c d hd) $$ HP
    unfold rAny Ow
    icases Hf with ⟨⟨%f, %hf, Hs⟩, Ht1, Ht2⟩
    icases H with ⟨⟨%fd, Hr⟩, HbackP⟩
    icases HO with ⟨%W, HO⟩
    have hd₁ : c ∈ (Rd (F := F) m).duties (sendCell c d) 0 := by rw [duties_send m c hd]; exact Finset.mem_singleton_self _
    have hd₂ : c ∈ (Rd (F := F) m).duties (recvCell d) 0 := by rw [duties_recv]; exact Finset.mem_erase.2 ⟨fun e => hd e.symm, Finset.mem_univ _⟩
    have hN : (rSlot c).view.amount (.dma recvS) = N := (N_eq c).symm
    have hO : owedR c d.val + owedB c 16 = (owedR c (d.val + 1) + owedB c 16) + tallyAt (recvCell d) () N := by
      rw [owedR_step c d hd, add_right_comm]
    have hpay₁ : ((sSlot d).view.loc (c : Thread nD τ) ↦[(sSlot d).view.set]{fullShare} f) ⊢ (Rd (F := F) m).payload (sendCell c d) 0 c := by
      rw [payload_send]; unfold sAny sPts; iintro H; iexists f; iexact H
    have hpay₂ : ((rSlot c).view.loc (d : Thread nD τ) ↦[(rSlot c).view.set]{fullShare} ((rSlot c).view.write (Elt F) fd ((sSlot d).view.read (Elt F) f) Finset.univ))
        ⊢ (Rd (F := F) m).payload (recvCell d) 0 c := by
      rw [payload_recv, hf]; unfold rHas rPts; iintro H
      iexists ((rSlot c).view.write (Elt F) fd (snd m c d) Finset.univ)
      isplitr
      · ipureintro; exact View.read_write_univ _ _
      iexact H
    iapply (Rounds.wp_send_pointsTo 𝒱₀ ER (Rd m) (c : Thread nD τ) none (c' := (d : Thread nD τ)) (src := sSlot d) (dst := rSlot c) (sS := .dma (sendS d)) (sem := .dma recvS)
      (q := fullShare) (fs := f) (fd := fd) (r₁ := 0) (r₂ := 0) (d₁ := c) (d₂ := c) (κ₁ := K (c, kSend d)) (κ₂ := K (d, kRecv))
      hd₁ hd₂ () () N hN (amount_send m c d c) (amount_recv m d c) (owedR c (d.val + 1) + owedB c 16) hO hpay₁ hpay₂) $$ [Hs Hr HO Ht1 Ht2]
    · isplitr; · iapply (ctx_inv m K (c, kSend d)); iexact HC
      isplitr; · iapply (ctx_inv m K (d, kRecv)); iexact HC
      unfold sPts rPts
      isplitl [Hs]; · iexact Hs
      isplitl [Hr]; · iexact Hr
      isplitl [HO]; · iexact HO
      isplitl [Ht1]; · iexact Ht1
      isplitr; · iapply (ctx_reached m K (c, kSend d)); iexact HC
      isplitl [Ht2]; · iexact Ht2
      iapply (ctx_reached m K (d, kRecv)); iexact HC
    iintro ⟨Hc, HO⟩
    iapply Hk
    isplitl [Hc Hback]; · iapply Hback; iexact Hc
    isplitl [HbackP]; · iapply HbackP; iempintro
    iexists _; iexact HO
  · have hd : d = c := not_not.1 fun hd => h (hp.2 hd)
    subst hd
    rw [dif_neg h]
    have hsent : snSent (F := F) d d = sAny d d := if_pos rfl
    rw [hsent]
    unfold snFull sHas sAny
    icases Hf with ⟨⟨%f, %hf, Hs⟩, -⟩
    iapply Hk
    isplitl [Hs Hback]; · iapply Hback; iexists f; iexact Hs
    isplitl [HP]; · rw [← Pr_skip]; iexact HP
    unfold Ow
    rw [← owedR_skip]
    iexact HO

end S2

end Cert.KernelIdealProof

end
-- ==== Proof.KernelIdealRecv.lean ====
/-
# Landing, storing and draining

The steps that store the device's own block, wait for the others' blocks, copy them to the result, and wait for the transfers.
-/
module

public import proofs.«01_k».proof.Proof.KernelIdealSends
public import Idealize.ShloMosaic.Lib.ViewIndex

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × KK → ℕ) (c : Dev nD)

/-! ## The result block -/

/-- The result block, with the rows `256 i …` for which `P i` holds as they are to be. -/
def Out (P : Dev nD → Prop) : sProp 𝕄 :=
  iprop(∃ f : Buf (Elt F) ((c : Thread nD τ).loc cc0_stg0_0), ⌜∀ i, P i → (oM.access (blockR i)).read (Elt F) f = blkOut m c i⌝
    ∗ (((c : Thread nD τ).loc cc0_stg0_0) ↦{fullShare} f))
/-- Before the others' blocks are copied: its own, if it is one of the blocks `< d`. -/
abbrev own (d : ℕ) (i : Dev nD) : Prop := i = c ∧ i.val < d
/-- While the others' blocks are copied: its own, and the blocks `< e`. -/
abbrev have' (e : ℕ) (i : Dev nD) : Prop := i = c ∨ i.val < e

omit [FloatOps F] in
theorem block_disjoint (i j : Dev nD) (h : j ≠ i) :
    Disjoint ((oM : Memref sig .tc .vmem S4096x128 .f32).view.slice (blockR j)).set ((oM : Memref sig .tc .vmem S4096x128 .f32).view.slice (blockR i)).set :=
  View.disjoint_slice (Rect.unit_disjoint (0 : Fin 2) (by
    have : j.val ≠ i.val := fun e => h (Fin.ext e)
    show 256 * j.val + 256 ≤ 256 * i.val ∨ 256 * i.val + 256 ≤ 256 * j.val
    omega))

section O
variable {α : Type} {r : Prog (TpuEff nD τ sig (Elt F) Λ₀ .tc) α}

/-- Rows `256 i …` are loaded and overwritten with the block they are to hold. -/
theorem put {Φ : α → sProp 𝕄} {P P' : Dev nD → Prop} (i : Dev nD) (hP : ∀ j, P' j → j = i ∨ P j) (w : FVec F S256x128 .f32) (hw : w = blkOut m c i)
    {hl : (oM : Memref sig .tc .vmem S4096x128 .f32).view.LoadsAt (blockR i).toLoadRect} {hx : (oM.access (blockR i)).Stores Finset.univ} {hm} :
    Out m c P
      ⊢ iprop((Out m c P' -∗ WP c r Φ)
          -∗ WP c (.op (.load oM (blockR i).toLoadRect hl) fun _ => .op (.store oM (blockR i) w Finset.univ hx hm) fun _ => r) Φ) := by
  subst hw
  unfold Out
  iintro ⟨%f, %hf, Ho⟩ Hk
  iapply (wp_load 𝒱₀ (c : Thread nD τ) none Set.univ (m := oM) (Finset.subset_univ _)) $$ Ho
  iintro Ho
  iapply (wp_store 𝒱₀ (c : Thread nD τ) none Set.univ (m := oM) (r := blockR i) (Mk := Finset.univ) (Finset.subset_univ _)) $$ Ho
  iintro Ho
  iapply Hk
  iexists ((oM.access (blockR i)).write (Elt F) f (blkOut m c i) Finset.univ)
  isplitr
  · ipureintro
    intro j hj
    by_cases h : j = i
    · subst h; exact View.read_write_univ _ _
    · refine (View.read_slice_write_slice_of_disjoint (v := (oM : Memref sig .tc .vmem S4096x128 .f32).view) (blockR j) (blockR i) f (blkOut m c i) Finset.univ (block_disjoint i j h)).trans
        (hf j ((hP j hj).resolve_left h))
  iexact Ho

omit r in
/-- The device's own block is stored if `d` is the device. -/
theorem own_if {r : Prog (TpuEff nD τ sig (Elt F) Λ₀ .tc) α} {Φ : α → sProp 𝕄} (d : Dev nD) (p : Prop) [Decidable p] (hp : p ↔ d = c) (o : Fin 2 → ℕ) (ho : o = ![256 * c.val, 0])
    (hi : p → ∀ a, o a + S256x128.size a ≤ S4096x128.size a) (w : FVec F S256x128 .f32) (hw : w = sub m c d)
    (hl : ∀ h : p, (oM : Memref sig .tc .vmem S4096x128 .f32).view.LoadsAt (Rect.unit (s := S4096x128) o S256x128.size (hi h)).toLoadRect)
    (hx : ∀ h : p, (oM.access (Rect.unit o S256x128.size (hi h))).Stores Finset.univ)
    (hm : ∀ h : p, (Finset.univ : Finset (Rect.unit (s := S4096x128) o S256x128.size (hi h)).shape.Idx) = Finset.univ ∨ ∀ a, (Rect.unit (s := S4096x128) o S256x128.size (hi h)).stride a = 1) :
    Out m c (own c d.val)
      ⊢ iprop((Out m c (own c (d.val + 1)) -∗ WP c r Φ)
          -∗ WP c (if h : p then .op (.load oM (Rect.unit (s := S4096x128) o S256x128.size (hi h)).toLoadRect (hl h)) fun _ =>
                .op (.store oM (Rect.unit o S256x128.size (hi h)) w Finset.univ (hx h) (hm h)) fun _ => r
            else r) Φ) := by
  subst ho hw
  by_cases h : p
  · have hd := hp.1 h
    subst hd
    rw [dif_pos h]
    exact put m d d (fun j hj => .inl hj.1) (sub m d d) (if_pos rfl).symm
  · rw [dif_neg h]
    have hd : d ≠ c := fun e => h (hp.2 e)
    have : own c (d.val + 1) = own c d.val := funext fun i => propext ⟨fun hi => ⟨hi.1, by
      have : i.val ≠ d.val := fun e => hd ((Fin.ext e).symm.trans hi.1)
      have := hi.2; omega⟩, fun hi => ⟨hi.1, Nat.lt_succ_of_lt hi.2⟩⟩
    rw [this]
    iintro H Hk
    iapply Hk; iexact H

/-! ## What lands -/

/-- The landing slots when everything has landed: the device's own as it was, the others' holding their device's block. -/
def rbAt (j : Dev nD) : sProp 𝕄 := if j = c then rAny c c else rHas c j (snd m j c)
def Rb : sProp 𝕄 := bigSep Finset.univ (rbAt m c)

theorem Rb_at (j : Dev nD) (hj : j ≠ c) : Rb m c ⊢ iprop(rHas c j (snd m j c) ∗ (rHas c j (snd m j c) -∗ Rb m c)) := by
  have h := upd (F := F) (Φ := rbAt m c) (Ψ := rbAt m c) j (fun _ _ => rfl)
  have h1 : rbAt m c j = rHas c j (snd m j c) := if_neg hj
  rw [h1] at h
  exact h

/-- A landed block is copied to its rows, if it is another device's. -/
theorem copy_if {Φ : α → sProp 𝕄} (e : Dev nD) (p : Prop) [Decidable p] (hp : p ↔ e ≠ c)
    (w : FVec F S1x256x128 .bf16 → FVec F S256x128 .f32) (hw : w = fun v => extf .f32 (shapeCast S256x128 v shapeCasts_S1x256x128_S256x128) bitsLt_bf16_f32)
    (hlr : p → (rM : Memref sig .tc .vmem S16x256x128 .bf16).view.LoadsAt (slotR e).toLoadRect)
    (hl : p → (oM : Memref sig .tc .vmem S4096x128 .f32).view.LoadsAt (blockR e).toLoadRect)
    (hx : p → (oM.access (blockR e)).Stores Finset.univ) (hm : p → (Finset.univ : Finset (blockR e).shape.Idx) = Finset.univ ∨ ∀ a, (blockR e).stride a = 1) :
    iprop(Rb m c ∗ Out m c (have' c e.val))
      ⊢ iprop(((Rb m c ∗ Out m c (have' c (e.val + 1))) -∗ WP c r Φ)
          -∗ WP c (if h : p then .op (.load rM (slotR e).toLoadRect (hlr h)) fun (v : Vec F S1x256x128 .bf16) => .op (.load oM (blockR e).toLoadRect (hl h)) fun _ =>
                .op (.store oM (blockR e) (w v) Finset.univ (hx h) (hm h)) fun _ => r
            else r) Φ) := by
  subst hw
  iintro ⟨HR, HO⟩ Hk
  by_cases h : p
  · have he := hp.1 h
    rw [dif_pos h]
    ihave H := (Rb_at m c e he) $$ HR
    unfold rHas
    icases H with ⟨⟨%f, %hf, Hr⟩, Hback⟩
    unfold rPts
    iapply (wp_load_rect 𝒱₀ (c : Thread nD τ) none Set.univ (m := rM) (r := slotR e) (S := (rSlot e).view.set) (f := f) (q := fullShare) (Finset.Subset.antisymm_iff.1 (rSlot_set e)).2) $$ Hr
    iintro Hr
    have hw : extf .f32 (shapeCast S256x128 ((rM.access (slotR e)).read (Elt F) f) shapeCasts_S1x256x128_S256x128) bitsLt_bf16_f32 = blkOut m c e := by
      unfold blkOut
      rw [if_neg he, ← hf]; rfl
    iapply (put m c (P := have' c e.val) (P' := have' c (e.val + 1)) (r := r) e
      (fun j hj => by
        rcases hj with hj | hj
        · exact .inr (.inl hj)
        · by_cases hje : j.val = e.val
          · exact .inl (Fin.ext hje)
          · exact .inr (.inr (by omega))) _ hw) $$ HO
    iintro HO
    iapply Hk
    isplitr [HO]
    · iapply Hback
      iexists f
      isplitr
      · ipureintro; exact hf
      iexact Hr
    iexact HO
  · rw [dif_neg h]
    have he : e = c := not_not.1 fun he => h (hp.2 he)
    have : have' c (e.val + 1) = have' c e.val := funext fun i => propext ⟨fun hi => hi.elim .inl fun hi => by
      by_cases hic : i.val = e.val
      · exact .inl ((Fin.ext hic).trans he)
      · exact .inr (by omega), fun hi => hi.imp_right Nat.lt_succ_of_lt⟩
    rw [this]
    iapply Hk
    isplitl [HR] <;> iassumption

end O

section R
variable {α : Type} {k : PUnit → Prog (TpuEff nD τ sig (Elt F) Λ₀ .tc) α}

/-- `n` of the fifteen waits for what lands have been made. Which blocks have been taken out is not known. -/
def Rv (n : ℕ) : sProp 𝕄 :=
  iprop(∃ T : Finset (Dev nD), ⌜T ⊆ Finset.univ.erase c⌝ ∗ atPos ER (recvCell c) 0 T (n * N) ∗ cred (tallyAt (recvCell c) () ((15 - n) * N))
    ∗ bigSep T fun d => rHas c d (snd m d c))

omit [FloatOps F] in
theorem sdiff_split {s t : Finset (Dev nD)} (h : t ⊆ s) {Φ : Dev nD → sProp 𝕄} : bigSep s Φ = iprop(bigSep t Φ ∗ bigSep (s \ t) Φ) :=
  bigSep_sdiff_split h
omit [FloatOps F] in
theorem cred_split (n : ℕ) (hn : n < 15) : (cred (tallyAt (recvCell c) () ((15 - n) * N)) : sProp 𝕄)
    ⊢ iprop(cred (tallyAt (recvCell c) () N) ∗ cred (tallyAt (recvCell c) () ((15 - (n + 1)) * N))) := by
  have h : (tallyAt (recvCell c) () ((15 - n) * N) : CellTallies nD τ sig Unit) = tallyAt (recvCell c) () N + tallyAt (recvCell c) () ((15 - (n + 1)) * N) := by
    rw [tallyAt_add]
    congr 1
    obtain ⟨q, hq⟩ : ∃ q, 15 - n = q + 1 := ⟨14 - n, by omega⟩
    rw [hq, show 15 - (n + 1) = q by omega, Nat.succ_mul, Nat.add_comm]
  rw [h]; exact (cred_add _ _).1

theorem recv_wait {Φ : α → sProp 𝕄} (n : ℕ) (hn : n < 14) {sp} {s} {e} {src : Memref sig .tc sp s e} {hsrc : src.view.WordExact} {hdst : (rSlot 0).view.WordExact} :
    iprop(ctx m K ∗ Rv m c n ∗ Ow c 16 16)
      ⊢ iprop(((Rv m c (n + 1) ∗ Ow c 16 16) -∗ WP c (k ⟨⟩) Φ) -∗ WP c (.op (.waitDma2 recvS src (rSlot 0) hsrc hdst) k) Φ) := by
  unfold Rv Ow
  rw [owedR_done, owedB_done, add_zero]
  iintro ⟨#HC, ⟨%T, %hT, Hat, Hc, Hpay⟩, ⟨%W, HO⟩⟩ Hk
  ihave H := (cred_split (F := F) c n (by omega)) $$ Hc
  icases H with ⟨Hc, Hc'⟩
  have htot : Util.total (Finsupp.single () N) = (rSlot 0).view.dmaCredit := by rw [Util.total_single]; exact N_eq 0
  iapply (Rounds.wp_wait 𝒱₀ ER (Rd m) (c : Thread nD τ) none (κ := K (c, kRecv))
      (wpE_waitDma2_eq 𝒱₀ (c : Thread nD τ) none Set.univ) (Set.mem_univ _) (cr := Finsupp.single () N) (O := 0) (W := W) {(SemLoc.dma recvS, ())} (R := 0) (m := n * N) (T := T) htot
      (image_single_subset _ _ _)) $$ [Hc HO Hat]
  · isplitr; · iapply (ctx_inv m K (c, kRecv)); iexact HC
    isplitl [Hc]; · iexact Hc
    isplitl [HO]; · iexact HO
    isplitr; · rw [MayOwe_zero]; iempintro
    iexact Hat
  iintro %S ⟨%hS, HO, Hat, Hpay'⟩
  iapply Hk
  isplitr [HO]
  · iexists S
    isplitr
    · ipureintro; exact hS.2.1.trans (subset_of_eq (duties_recv m c))
    isplitl [Hat]
    · rw [Nat.succ_mul]
      iapply (Entails.of_eq (show (atPos ER (recvCell c) 0 S (n * N + (rSlot 0).view.dmaCredit) : sProp 𝕄) = atPos ER (recvCell c) 0 S (n * N + N) by rw [← N_eq])); iexact Hat
    isplitl [Hc']; · iexact Hc'
    iapply (Entails.of_eq (show iprop(bigSep T (fun d => rHas c d (snd m d c)) ∗ bigSep (S \ T) (fun d => (Rd (F := F) m).payload (recvCell c) 0 d)) = bigSep S (fun d => rHas c d (snd m d c)) by
      rw [sdiff_split hS.1, bigSep_congr (s := S \ T) fun d _ => payload_recv m c d]))
    isplitl [Hpay] <;> iassumption
  iexists _; iexact HO

/-- The last of the waits: every other device's block has landed. -/
theorem recv_last {Φ : α → sProp 𝕄} {sp} {s} {e} {src : Memref sig .tc sp s e} {hsrc : src.view.WordExact} {hdst : (rSlot 0).view.WordExact} :
    iprop(ctx m K ∗ Rv m c 14 ∗ rAny c c ∗ Ow c 16 16)
      ⊢ iprop(((Rb m c ∗ atPos ER (recvCell c) 1 ∅ 0 ∗ Ow c 16 16) -∗ WP c (k ⟨⟩) Φ) -∗ WP c (.op (.waitDma2 recvS src (rSlot 0) hsrc hdst) k) Φ) := by
  unfold Rv Ow
  rw [owedR_done, owedB_done, add_zero]
  iintro ⟨#HC, ⟨%T, %hT, Hat, Hc, Hpay⟩, Hown, ⟨%W, HO⟩⟩ Hk
  have hk : 14 * N + (rSlot 0).view.dmaCredit = (Rd (F := F) m).expect (recvCell c) 0 := by
    rw [expect_recv, ← N_eq]; omega
  iapply (Rounds.wp_wait_rest_token 𝒱₀ ER (Rd m) (c : Thread nD τ) none (κ := K (c, kRecv))
      (wpE_waitDma2_eq 𝒱₀ (c : Thread nD τ) none Set.univ) (Set.mem_univ _) () (O := 0) (W := W) (R := 0) (m := 14 * N) (T := T) hk) $$ [Hc HO Hat]
  · isplitr; · iapply (ctx_inv m K (c, kRecv)); iexact HC
    isplitl [Hc]
    · iapply (Entails.of_eq (show (cred (tallyAt (recvCell c) () ((15 - 14) * N)) : sProp 𝕄) = cred (tallyAt (recvCell c) () (rSlot 0).view.dmaCredit) by
        rw [← N_eq, Nat.one_mul])); iexact Hc
    isplitl [HO]; · iexact HO
    isplitr; · rw [MayWait_zero]; iempintro
    iexact Hat
  iintro ⟨HO, Hat, -, Hpay'⟩
  iapply Hk
  isplitl [Hpay Hpay' Hown]
  · iapply (Entails.of_eq (show iprop(rAny c c ∗ bigSep T (fun d => rHas c d (snd m d c)) ∗ bigSep ((Rd (F := F) m).duties (recvCell c) 0 \ T) (fun d => (Rd (F := F) m).payload (recvCell c) 0 d)) = Rb m c by
      unfold Rb
      rw [bigSep_univ_at _ c, show rbAt m c c = rAny c c from if_pos rfl,
        bigSep_congr (s := Finset.univ.erase c) (Φ := rbAt m c) (Ψ := fun d => rHas c d (snd m d c)) fun d hd => if_neg (Finset.ne_of_mem_erase hd),
        sdiff_split hT, duties_recv, bigSep_congr (s := Finset.univ.erase c \ T) fun d _ => payload_recv m c d]))
    isplitl [Hown]; · iexact Hown
    isplitl [Hpay] <;> iassumption
  isplitl [Hat]; · iexact Hat
  iexists _; iexact HO

end R

/-! ## The send slots come back -/

def swAt (e : ℕ) (j : Dev nD) : sProp 𝕄 :=
  if j.val < e then iprop(sAny c j ∗ atPos ER (sendCell c j) (if j = c then 0 else 1) ∅ 0) else iprop(snSent c j ∗ atPos ER (sendCell c j) 0 ∅ 0)
/-- The transfers of blocks `< e` have been waited for. -/
def Sw (e : ℕ) : sProp 𝕄 := bigSep Finset.univ (swAt (F := F) c e)

omit [FloatOps F] in
theorem Sw_step (d : Dev nD) : Sw (F := F) c d.val ⊢ iprop((snSent c d ∗ atPos ER (sendCell c d) 0 ∅ 0)
    ∗ ((sAny c d ∗ atPos ER (sendCell c d) (if d = c then 0 else 1) ∅ 0) -∗ Sw c (d.val + 1))) := by
  have h := upd (F := F) (Φ := swAt c d.val) (Ψ := swAt c (d.val + 1)) d (fun i hi => by
    have hne : i.val ≠ d.val := fun e => hi (Fin.ext e)
    unfold swAt
    by_cases h : i.val < d.val
    · rw [if_pos h, if_pos (Nat.lt_succ_of_lt h)]
    · rw [if_neg h, if_neg (by omega : ¬ i.val < d.val + 1)])
  have h1 : swAt (F := F) c d.val d = iprop(snSent c d ∗ atPos ER (sendCell c d) 0 ∅ 0) := by unfold swAt; rw [if_neg (Nat.lt_irrefl _)]
  have h2 : swAt (F := F) c (d.val + 1) d = iprop(sAny c d ∗ atPos ER (sendCell c d) (if d = c then 0 else 1) ∅ 0) := by unfold swAt; rw [if_pos (Nat.lt_succ_self _)]
  rw [h1, h2] at h
  exact h

section Q
variable {α : Type} {r : Prog (TpuEff nD τ sig (Elt F) Λ₀ .tc) α}

/-- The wait for the transfer of block `d`, made unless `d` is the device itself. -/
theorem sent_if {Φ : α → sProp 𝕄} (d : Dev nD) (p : Prop) [Decidable p] (hp : p ↔ d ≠ c) {sp} {s} {e} (src : p → Memref sig .tc sp s e)
    (hsrc : ∀ h : p, (src h).view.WordExact) (hdst : p → (sSlot d).view.WordExact) :
    iprop(ctx m K ∗ Sw c d.val ∗ Ow c 16 16)
      ⊢ iprop(((Sw c (d.val + 1) ∗ Ow c 16 16) -∗ WP c r Φ)
          -∗ WP c (if h : p then .op (.waitDma2 (sendS d) (src h) (sSlot d) (hsrc h) (hdst h)) fun _ => r else r) Φ) := by
  iintro ⟨#HC, HS, HO⟩ Hk
  ihave H := (Sw_step (F := F) c d) $$ HS
  by_cases h : p
  · have hd := hp.1 h
    rw [dif_pos h, show snSent (F := F) c d = cred (tallyAt (sendCell c d) () N) from if_neg hd, if_neg hd]
    unfold Ow
    rw [owedR_done, owedB_done, add_zero]
    icases H with ⟨⟨Hc, Hat⟩, Hback⟩
    icases HO with ⟨%W, HO⟩
    have hk : 0 + (sSlot d).view.dmaCredit = (Rd (F := F) m).expect (sendCell c d) 0 := by
      rw [expect_send m c hd, Nat.zero_add, ← N_eq']
    iapply (Rounds.wp_wait_rest_token 𝒱₀ ER (Rd m) (c : Thread nD τ) none (κ := K (c, kSend d))
        (wpE_waitDma2_eq 𝒱₀ (c : Thread nD τ) none Set.univ) (Set.mem_univ _) () (O := 0) (W := W) (R := 0) (m := 0) (T := ∅) hk) $$ [Hc HO Hat]
    · isplitr; · iapply (ctx_inv m K (c, kSend d)); iexact HC
      isplitl [Hc]; · rw [← N_eq']; iexact Hc
      isplitl [HO]; · iexact HO
      isplitr; · rw [MayWait_zero]; iempintro
      iexact Hat
    iintro ⟨HO, Hat, -, Hpay⟩
    iapply Hk
    isplitr [HO]
    · iapply Hback
      isplitl [Hpay]
      · iapply (Entails.of_eq (show bigSep ((Rd (F := F) m).duties (sendCell c d) 0 \ ∅) (fun u => (Rd (F := F) m).payload (sendCell c d) 0 u) = sAny c d by
          rw [Finset.sdiff_empty, duties_send m c hd, bigSep_singleton, payload_send])); iexact Hpay
      iexact Hat
    iexists _; iexact HO
  · have hd : d = c := not_not.1 fun hd => h (hp.2 hd)
    rw [dif_neg h, show snSent (F := F) c d = sAny c d by rw [hd]; exact if_pos rfl, if_pos hd]
    icases H with ⟨H, Hback⟩
    iapply Hk
    isplitr [HO]
    · iapply Hback; iexact H
    iexact HO

end Q

end Cert.KernelIdealProof

end
-- ==== Proof.KernelIdealConds.lean ====
module

public import proofs.«01_k».proof.Proof.KernelIdealRecv

/-! The devices the kernel signals, and when its conditions hold, in terms of the device's number. -/

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × KK → ℕ) (c : Dev nD)

theorem peer1 : ∀ c : Dev nD, (⟨k0_dev1 c, k0_dev1_lt c⟩ : Dev nD) ≠ c ∧ dist c ⟨k0_dev1 c, k0_dev1_lt c⟩ = 1 := by unfold dist; decide +kernel
theorem peer2 : ∀ c : Dev nD, (⟨k0_dev2 c, k0_dev2_lt c⟩ : Dev nD) ≠ c ∧ dist c ⟨k0_dev2 c, k0_dev2_lt c⟩ = 2 := by unfold dist; decide +kernel
theorem peer3 : ∀ c : Dev nD, (⟨k0_dev3 c, k0_dev3_lt c⟩ : Dev nD) ≠ c ∧ dist c ⟨k0_dev3 c, k0_dev3_lt c⟩ = 3 := by unfold dist; decide +kernel
theorem peer4 : ∀ c : Dev nD, (⟨k0_dev4 c, k0_dev4_lt c⟩ : Dev nD) ≠ c ∧ dist c ⟨k0_dev4 c, k0_dev4_lt c⟩ = 4 := by unfold dist; decide +kernel
theorem peer5 : ∀ c : Dev nD, (⟨k0_dev5 c, k0_dev5_lt c⟩ : Dev nD) ≠ c ∧ dist c ⟨k0_dev5 c, k0_dev5_lt c⟩ = 5 := by unfold dist; decide +kernel
theorem peer6 : ∀ c : Dev nD, (⟨k0_dev6 c, k0_dev6_lt c⟩ : Dev nD) ≠ c ∧ dist c ⟨k0_dev6 c, k0_dev6_lt c⟩ = 6 := by unfold dist; decide +kernel
theorem peer7 : ∀ c : Dev nD, (⟨k0_dev7 c, k0_dev7_lt c⟩ : Dev nD) ≠ c ∧ dist c ⟨k0_dev7 c, k0_dev7_lt c⟩ = 7 := by unfold dist; decide +kernel
theorem peer8 : ∀ c : Dev nD, (⟨k0_dev8 c, k0_dev8_lt c⟩ : Dev nD) ≠ c ∧ dist c ⟨k0_dev8 c, k0_dev8_lt c⟩ = 8 := by unfold dist; decide +kernel
theorem peer9 : ∀ c : Dev nD, (⟨k0_dev9 c, k0_dev9_lt c⟩ : Dev nD) ≠ c ∧ dist c ⟨k0_dev9 c, k0_dev9_lt c⟩ = 9 := by unfold dist; decide +kernel
theorem peer10 : ∀ c : Dev nD, (⟨k0_dev10 c, k0_dev10_lt c⟩ : Dev nD) ≠ c ∧ dist c ⟨k0_dev10 c, k0_dev10_lt c⟩ = 10 := by unfold dist; decide +kernel
theorem peer11 : ∀ c : Dev nD, (⟨k0_dev11 c, k0_dev11_lt c⟩ : Dev nD) ≠ c ∧ dist c ⟨k0_dev11 c, k0_dev11_lt c⟩ = 11 := by unfold dist; decide +kernel
theorem peer12 : ∀ c : Dev nD, (⟨k0_dev12 c, k0_dev12_lt c⟩ : Dev nD) ≠ c ∧ dist c ⟨k0_dev12 c, k0_dev12_lt c⟩ = 12 := by unfold dist; decide +kernel
theorem peer13 : ∀ c : Dev nD, (⟨k0_dev13 c, k0_dev13_lt c⟩ : Dev nD) ≠ c ∧ dist c ⟨k0_dev13 c, k0_dev13_lt c⟩ = 13 := by unfold dist; decide +kernel
theorem peer14 : ∀ c : Dev nD, (⟨k0_dev14 c, k0_dev14_lt c⟩ : Dev nD) ≠ c ∧ dist c ⟨k0_dev14 c, k0_dev14_lt c⟩ = 14 := by unfold dist; decide +kernel
theorem peer15 : ∀ c : Dev nD, (⟨k0_dev15 c, k0_dev15_lt c⟩ : Dev nD) ≠ c ∧ dist c ⟨k0_dev15 c, k0_dev15_lt c⟩ = 15 := by unfold dist; decide +kernel
theorem send0 : ∀ c : Dev nD, k0_cond1 c = 1#1 ↔ (0 : Dev nD) ≠ c := by decide +kernel
theorem own0 : ∀ c : Dev nD, k0_cond2 c = 1#1 ↔ (0 : Dev nD) = c := by decide +kernel
theorem sent0 : ∀ c : Dev nD, k0_cond49 c = 1#1 ↔ (0 : Dev nD) ≠ c := by decide +kernel
theorem send1 : ∀ c : Dev nD, k0_cond3 c = 1#1 ↔ (1 : Dev nD) ≠ c := by decide +kernel
theorem own1 : ∀ c : Dev nD, k0_cond4 c = 1#1 ↔ (1 : Dev nD) = c := by decide +kernel
theorem sent1 : ∀ c : Dev nD, k0_cond50 c = 1#1 ↔ (1 : Dev nD) ≠ c := by decide +kernel
theorem send2 : ∀ c : Dev nD, k0_cond5 c = 1#1 ↔ (2 : Dev nD) ≠ c := by decide +kernel
theorem own2 : ∀ c : Dev nD, k0_cond6 c = 1#1 ↔ (2 : Dev nD) = c := by decide +kernel
theorem sent2 : ∀ c : Dev nD, k0_cond51 c = 1#1 ↔ (2 : Dev nD) ≠ c := by decide +kernel
theorem send3 : ∀ c : Dev nD, k0_cond7 c = 1#1 ↔ (3 : Dev nD) ≠ c := by decide +kernel
theorem own3 : ∀ c : Dev nD, k0_cond8 c = 1#1 ↔ (3 : Dev nD) = c := by decide +kernel
theorem sent3 : ∀ c : Dev nD, k0_cond52 c = 1#1 ↔ (3 : Dev nD) ≠ c := by decide +kernel
theorem send4 : ∀ c : Dev nD, k0_cond9 c = 1#1 ↔ (4 : Dev nD) ≠ c := by decide +kernel
theorem own4 : ∀ c : Dev nD, k0_cond10 c = 1#1 ↔ (4 : Dev nD) = c := by decide +kernel
theorem sent4 : ∀ c : Dev nD, k0_cond53 c = 1#1 ↔ (4 : Dev nD) ≠ c := by decide +kernel
theorem send5 : ∀ c : Dev nD, k0_cond11 c = 1#1 ↔ (5 : Dev nD) ≠ c := by decide +kernel
theorem own5 : ∀ c : Dev nD, k0_cond12 c = 1#1 ↔ (5 : Dev nD) = c := by decide +kernel
theorem sent5 : ∀ c : Dev nD, k0_cond54 c = 1#1 ↔ (5 : Dev nD) ≠ c := by decide +kernel
theorem send6 : ∀ c : Dev nD, k0_cond13 c = 1#1 ↔ (6 : Dev nD) ≠ c := by decide +kernel
theorem own6 : ∀ c : Dev nD, k0_cond14 c = 1#1 ↔ (6 : Dev nD) = c := by decide +kernel
theorem sent6 : ∀ c : Dev nD, k0_cond55 c = 1#1 ↔ (6 : Dev nD) ≠ c := by decide +kernel
theorem send7 : ∀ c : Dev nD, k0_cond15 c = 1#1 ↔ (7 : Dev nD) ≠ c := by decide +kernel
theorem own7 : ∀ c : Dev nD, k0_cond16 c = 1#1 ↔ (7 : Dev nD) = c := by decide +kernel
theorem sent7 : ∀ c : Dev nD, k0_cond56 c = 1#1 ↔ (7 : Dev nD) ≠ c := by decide +kernel
theorem send8 : ∀ c : Dev nD, k0_cond17 c = 1#1 ↔ (8 : Dev nD) ≠ c := by decide +kernel
theorem own8 : ∀ c : Dev nD, k0_cond18 c = 1#1 ↔ (8 : Dev nD) = c := by decide +kernel
theorem sent8 : ∀ c : Dev nD, k0_cond57 c = 1#1 ↔ (8 : Dev nD) ≠ c := by decide +kernel
theorem send9 : ∀ c : Dev nD, k0_cond19 c = 1#1 ↔ (9 : Dev nD) ≠ c := by decide +kernel
theorem own9 : ∀ c : Dev nD, k0_cond20 c = 1#1 ↔ (9 : Dev nD) = c := by decide +kernel
theorem sent9 : ∀ c : Dev nD, k0_cond58 c = 1#1 ↔ (9 : Dev nD) ≠ c := by decide +kernel
theorem send10 : ∀ c : Dev nD, k0_cond21 c = 1#1 ↔ (10 : Dev nD) ≠ c := by decide +kernel
theorem own10 : ∀ c : Dev nD, k0_cond22 c = 1#1 ↔ (10 : Dev nD) = c := by decide +kernel
theorem sent10 : ∀ c : Dev nD, k0_cond59 c = 1#1 ↔ (10 : Dev nD) ≠ c := by decide +kernel
theorem send11 : ∀ c : Dev nD, k0_cond23 c = 1#1 ↔ (11 : Dev nD) ≠ c := by decide +kernel
theorem own11 : ∀ c : Dev nD, k0_cond24 c = 1#1 ↔ (11 : Dev nD) = c := by decide +kernel
theorem sent11 : ∀ c : Dev nD, k0_cond60 c = 1#1 ↔ (11 : Dev nD) ≠ c := by decide +kernel
theorem send12 : ∀ c : Dev nD, k0_cond25 c = 1#1 ↔ (12 : Dev nD) ≠ c := by decide +kernel
theorem own12 : ∀ c : Dev nD, k0_cond26 c = 1#1 ↔ (12 : Dev nD) = c := by decide +kernel
theorem sent12 : ∀ c : Dev nD, k0_cond61 c = 1#1 ↔ (12 : Dev nD) ≠ c := by decide +kernel
theorem send13 : ∀ c : Dev nD, k0_cond27 c = 1#1 ↔ (13 : Dev nD) ≠ c := by decide +kernel
theorem own13 : ∀ c : Dev nD, k0_cond28 c = 1#1 ↔ (13 : Dev nD) = c := by decide +kernel
theorem sent13 : ∀ c : Dev nD, k0_cond62 c = 1#1 ↔ (13 : Dev nD) ≠ c := by decide +kernel
theorem send14 : ∀ c : Dev nD, k0_cond29 c = 1#1 ↔ (14 : Dev nD) ≠ c := by decide +kernel
theorem own14 : ∀ c : Dev nD, k0_cond30 c = 1#1 ↔ (14 : Dev nD) = c := by decide +kernel
theorem sent14 : ∀ c : Dev nD, k0_cond63 c = 1#1 ↔ (14 : Dev nD) ≠ c := by decide +kernel
theorem send15 : ∀ c : Dev nD, k0_cond31 c = 1#1 ↔ (15 : Dev nD) ≠ c := by decide +kernel
theorem own15 : ∀ c : Dev nD, k0_cond32 c = 1#1 ↔ (15 : Dev nD) = c := by decide +kernel
theorem sent15 : ∀ c : Dev nD, k0_cond64 c = 1#1 ↔ (15 : Dev nD) ≠ c := by decide +kernel

/-- The number of the device, as the kernel computes it. -/
abbrev num (c : Dev nD) : BitVec 32 := Scalar.remsi (Scalar.divsi (Dev.word c) 1#32) 16#32
theorem other0 : ∀ c : Dev nD, Scalar.cmpi .ne (Scalar.extui (Scalar.cmpi .ne (num c) 0#32) : BitVec 32) 0#32 = 1#1 ↔ (0 : Dev nD) ≠ c := by decide +kernel
theorem other1 : ∀ c : Dev nD, Scalar.cmpi .ne (Scalar.extui (Scalar.cmpi .ne (num c) 1#32) : BitVec 32) 0#32 = 1#1 ↔ (1 : Dev nD) ≠ c := by decide +kernel
theorem other2 : ∀ c : Dev nD, Scalar.cmpi .ne (Scalar.extui (Scalar.cmpi .ne (num c) 2#32) : BitVec 32) 0#32 = 1#1 ↔ (2 : Dev nD) ≠ c := by decide +kernel
theorem other3 : ∀ c : Dev nD, Scalar.cmpi .ne (Scalar.extui (Scalar.cmpi .ne (num c) 3#32) : BitVec 32) 0#32 = 1#1 ↔ (3 : Dev nD) ≠ c := by decide +kernel
theorem other4 : ∀ c : Dev nD, Scalar.cmpi .ne (Scalar.extui (Scalar.cmpi .ne (num c) 4#32) : BitVec 32) 0#32 = 1#1 ↔ (4 : Dev nD) ≠ c := by decide +kernel
theorem other5 : ∀ c : Dev nD, Scalar.cmpi .ne (Scalar.extui (Scalar.cmpi .ne (num c) 5#32) : BitVec 32) 0#32 = 1#1 ↔ (5 : Dev nD) ≠ c := by decide +kernel
theorem other6 : ∀ c : Dev nD, Scalar.cmpi .ne (Scalar.extui (Scalar.cmpi .ne (num c) 6#32) : BitVec 32) 0#32 = 1#1 ↔ (6 : Dev nD) ≠ c := by decide +kernel
theorem other7 : ∀ c : Dev nD, Scalar.cmpi .ne (Scalar.extui (Scalar.cmpi .ne (num c) 7#32) : BitVec 32) 0#32 = 1#1 ↔ (7 : Dev nD) ≠ c := by decide +kernel
theorem other8 : ∀ c : Dev nD, Scalar.cmpi .ne (Scalar.extui (Scalar.cmpi .ne (num c) 8#32) : BitVec 32) 0#32 = 1#1 ↔ (8 : Dev nD) ≠ c := by decide +kernel
theorem other9 : ∀ c : Dev nD, Scalar.cmpi .ne (Scalar.extui (Scalar.cmpi .ne (num c) 9#32) : BitVec 32) 0#32 = 1#1 ↔ (9 : Dev nD) ≠ c := by decide +kernel
theorem other10 : ∀ c : Dev nD, Scalar.cmpi .ne (Scalar.extui (Scalar.cmpi .ne (num c) 10#32) : BitVec 32) 0#32 = 1#1 ↔ (10 : Dev nD) ≠ c := by decide +kernel
theorem other11 : ∀ c : Dev nD, Scalar.cmpi .ne (Scalar.extui (Scalar.cmpi .ne (num c) 11#32) : BitVec 32) 0#32 = 1#1 ↔ (11 : Dev nD) ≠ c := by decide +kernel
theorem other12 : ∀ c : Dev nD, Scalar.cmpi .ne (Scalar.extui (Scalar.cmpi .ne (num c) 12#32) : BitVec 32) 0#32 = 1#1 ↔ (12 : Dev nD) ≠ c := by decide +kernel
theorem other13 : ∀ c : Dev nD, Scalar.cmpi .ne (Scalar.extui (Scalar.cmpi .ne (num c) 13#32) : BitVec 32) 0#32 = 1#1 ↔ (13 : Dev nD) ≠ c := by decide +kernel
theorem other14 : ∀ c : Dev nD, Scalar.cmpi .ne (Scalar.extui (Scalar.cmpi .ne (num c) 14#32) : BitVec 32) 0#32 = 1#1 ↔ (14 : Dev nD) ≠ c := by decide +kernel
theorem other15 : ∀ c : Dev nD, Scalar.cmpi .ne (Scalar.extui (Scalar.cmpi .ne (num c) 15#32) : BitVec 32) 0#32 = 1#1 ↔ (15 : Dev nD) ≠ c := by decide +kernel

end Cert.KernelIdealProof

end
-- ==== Proof.KernelIdealParts.lean ====
module

public import proofs.«01_k».proof.Proof.KernelIdealConds

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × KK → ℕ) (c : Dev nD)

/-- An even block is the left half of its chunk's product, an odd one the right half. -/
theorem sub_lo (j : Fin 8) (d : Dev nD) (h : d.val = 2 * j.val) : k0_pay3 (xc m c) (wc m c j) = sub m c d := by
  have e : half d = j := Fin.ext (by show d.val / 2 = j.val; omega)
  unfold sub; rw [if_pos (by omega), e]
theorem sub_hi (j : Fin 8) (d : Dev nD) (h : d.val = 2 * j.val + 1) : k0_pay6 (k0_pay2 (xc m c) (wc m c j)) = sub m c d := by
  have e : half d = j := Fin.ext (by show d.val / 2 = j.val; omega)
  unfold sub; rw [if_neg (by omega), e]
/-- The same for the blocks as they are sent. -/
theorem full_lo (j : Fin 8) (d : Dev nD) (h : d.val = 2 * j.val) :
    k0_pay5 (k0_pay4 (xc m c) (wc m c j)) = shapeCast S1x256x128 (snd m c d) shapeCasts_S256x128_S1x256x128 := by
  unfold snd k0_pay5 k0_pay4; rw [sub_lo m c j d h]
theorem full_hi (j : Fin 8) (d : Dev nD) (h : d.val = 2 * j.val + 1) :
    k0_pay7 (k0_pay2 (xc m c) (wc m c j)) = shapeCast S1x256x128 (snd m c d) shapeCasts_S256x128_S1x256x128 := by
  unfold snd k0_pay7; rw [sub_hi m c j d h]

/-- A program that has returned. -/
theorem done {α : Type} {a : α} {Φ : α → sProp 𝕄} : Φ a ⊢ WP c (.ret a) Φ := by
  show Φ a ⊢ wp _ _ _ (.ret a) Φ
  rw [wp_ret]
  iintro H
  imodintro
  iexact H

/-- The copies of the rows and of the first three chunks of `w` are started. -/
theorem part1 {Φ : _ → sProp 𝕄} :
    iprop(ctx m K ∗ xPts m c ∗ (∃ f, xvPts c f) ∗ dutyTok ER (xCell c) 0 c ∗ Wst m c 0 0)
      ⊢ iprop((∀ v w, (cred (tallyAt (xCell c) () xN) ∗ Wst m c 3 0) -∗ Φ ⟨c, num c, v, w⟩) -∗ WP c (k0_part1 xM (Memref.isWhole_whole _) wM (Memref.isWhole_whole _) oM (Memref.isWhole_whole _) xvM (Memref.isWhole_whole _) wvM (Memref.isWhole_whole _) sM (Memref.isWhole_whole _) rM (Memref.isWhole_whole _) cc0_scratch4 cc0_scratch5 cc0_scratch6 cc0_scratch7 cc0_scratch8 ) Φ) := by
  rw [k0_part1_eq_skeleton]
  unfold k0_part1_skel
  simp only [semSignalWord, semWaitWord, Prog.lift, Prog.bind_op, Prog.bind_ret, Prog.pure_eq_ret, wp_deviceId]
  iintro ⟨#HC, HX, HXV, HXT, HW⟩ Hk
  iapply (x_start m K c) $$ [HX HXV HXT]
  · isplitr; · iexact HC
    isplitl [HX]; · iexact HX
    isplitl [HXV]; · iexact HXV
    iexact HXT
  iintro HXC
  iapply (w_start m K c (0 : Fin 8) 0 (by decide)) $$ [HW]
  · isplitr; · iexact HC
    iexact HW
  iintro HW
  iapply (w_start m K c (1 : Fin 8) 0 (by decide)) $$ [HW]
  · isplitr; · iexact HC
    iexact HW
  iintro HW
  iapply (w_start m K c (2 : Fin 8) 0 (by decide)) $$ [HW]
  · isplitr; · iexact HC
    iexact HW
  iintro HW
  iapply (done c)
  iapply Hk
  isplitl [HXC]; · iexact HXC
  iexact HW

/-- The devices at distances 1 to 3 are signalled. -/
theorem part2 (v2 v25 v1 : BitVec 32) {Φ : _ → sProp 𝕄} :
    iprop(ctx m K ∗ Sg c 1 ∗ Ow c 0 1)
      ⊢ iprop((∀ v, (Sg c 4 ∗ Ow c 0 4) -∗ Φ v) -∗ WP c (k0_part2 xM (Memref.isWhole_whole _) wM (Memref.isWhole_whole _) oM (Memref.isWhole_whole _) xvM (Memref.isWhole_whole _) wvM (Memref.isWhole_whole _) sM (Memref.isWhole_whole _) rM (Memref.isWhole_whole _) cc0_scratch4 cc0_scratch5 cc0_scratch6 cc0_scratch7 cc0_scratch8 c v2 v25 v1) Φ) := by
  rw [k0_part2_eq_skeleton]
  unfold k0_part2_skel
  simp only [semSignalWord, semWaitWord, Prog.lift, Prog.bind_op, Prog.bind_ret, Prog.pure_eq_ret, wp_deviceId]
  iintro ⟨#HC, HG, HO⟩ Hk
  iapply (signal m K c ⟨k0_dev1 c, k0_dev1_lt c⟩ 1 (peer1 c).1 (peer1 c).2 _ rfl) $$ [HG HO]
  · isplitr; · iexact HC
    isplitl [HG]; · iexact HG
    iexact HO
  iintro ⟨HG, HO⟩
  iapply (signal m K c ⟨k0_dev2 c, k0_dev2_lt c⟩ 2 (peer2 c).1 (peer2 c).2 _ rfl) $$ [HG HO]
  · isplitr; · iexact HC
    isplitl [HG]; · iexact HG
    iexact HO
  iintro ⟨HG, HO⟩
  iapply (signal m K c ⟨k0_dev3 c, k0_dev3_lt c⟩ 3 (peer3 c).1 (peer3 c).2 _ rfl) $$ [HG HO]
  · isplitr; · iexact HC
    isplitl [HG]; · iexact HG
    iexact HO
  iintro ⟨HG, HO⟩
  iapply (done c)
  iapply Hk
  isplitl [HG]; · iexact HG
  iexact HO

/-- The devices at distances 4 to 5 are signalled. -/
theorem part3 (v2 v60 : BitVec 32) {Φ : _ → sProp 𝕄} :
    iprop(ctx m K ∗ Sg c 4 ∗ Ow c 0 4)
      ⊢ iprop((∀ v, (Sg c 6 ∗ Ow c 0 6) -∗ Φ v) -∗ WP c (k0_part3 xM (Memref.isWhole_whole _) wM (Memref.isWhole_whole _) oM (Memref.isWhole_whole _) xvM (Memref.isWhole_whole _) wvM (Memref.isWhole_whole _) sM (Memref.isWhole_whole _) rM (Memref.isWhole_whole _) cc0_scratch4 cc0_scratch5 cc0_scratch6 cc0_scratch7 cc0_scratch8 c v2 v60) Φ) := by
  rw [k0_part3_eq_skeleton]
  unfold k0_part3_skel
  simp only [semSignalWord, semWaitWord, Prog.lift, Prog.bind_op, Prog.bind_ret, Prog.pure_eq_ret, wp_deviceId]
  iintro ⟨#HC, HG, HO⟩ Hk
  iapply (signal m K c ⟨k0_dev4 c, k0_dev4_lt c⟩ 4 (peer4 c).1 (peer4 c).2 _ rfl) $$ [HG HO]
  · isplitr; · iexact HC
    isplitl [HG]; · iexact HG
    iexact HO
  iintro ⟨HG, HO⟩
  iapply (signal m K c ⟨k0_dev5 c, k0_dev5_lt c⟩ 5 (peer5 c).1 (peer5 c).2 _ rfl) $$ [HG HO]
  · isplitr; · iexact HC
    isplitl [HG]; · iexact HG
    iexact HO
  iintro ⟨HG, HO⟩
  iapply (done c)
  iapply Hk
  isplitl [HG]; · iexact HG
  iexact HO

/-- The devices at distances 6 to 7 are signalled. -/
theorem part4 (v2 v92 v93 : BitVec 32) {Φ : _ → sProp 𝕄} :
    iprop(ctx m K ∗ Sg c 6 ∗ Ow c 0 6)
      ⊢ iprop((∀ v, (Sg c 8 ∗ Ow c 0 8) -∗ Φ v) -∗ WP c (k0_part4 xM (Memref.isWhole_whole _) wM (Memref.isWhole_whole _) oM (Memref.isWhole_whole _) xvM (Memref.isWhole_whole _) wvM (Memref.isWhole_whole _) sM (Memref.isWhole_whole _) rM (Memref.isWhole_whole _) cc0_scratch4 cc0_scratch5 cc0_scratch6 cc0_scratch7 cc0_scratch8 c v2 v92 v93) Φ) := by
  rw [k0_part4_eq_skeleton]
  unfold k0_part4_skel
  simp only [semSignalWord, semWaitWord, Prog.lift, Prog.bind_op, Prog.bind_ret, Prog.pure_eq_ret, wp_deviceId]
  iintro ⟨#HC, HG, HO⟩ Hk
  iapply (signal m K c ⟨k0_dev6 c, k0_dev6_lt c⟩ 6 (peer6 c).1 (peer6 c).2 _ rfl) $$ [HG HO]
  · isplitr; · iexact HC
    isplitl [HG]; · iexact HG
    iexact HO
  iintro ⟨HG, HO⟩
  iapply (signal m K c ⟨k0_dev7 c, k0_dev7_lt c⟩ 7 (peer7 c).1 (peer7 c).2 _ rfl) $$ [HG HO]
  · isplitr; · iexact HC
    isplitl [HG]; · iexact HG
    iexact HO
  iintro ⟨HG, HO⟩
  iapply (done c)
  iapply Hk
  isplitl [HG]; · iexact HG
  iexact HO

/-- The devices at distances 8 to 9 are signalled. -/
theorem part5 (v2 v122 v123 : BitVec 32) (v124 v125 v126 : BitVec 1) {Φ : _ → sProp 𝕄} :
    iprop(ctx m K ∗ Sg c 8 ∗ Ow c 0 8)
      ⊢ iprop((∀ v, (Sg c 10 ∗ Ow c 0 10) -∗ Φ v) -∗ WP c (k0_part5 xM (Memref.isWhole_whole _) wM (Memref.isWhole_whole _) oM (Memref.isWhole_whole _) xvM (Memref.isWhole_whole _) wvM (Memref.isWhole_whole _) sM (Memref.isWhole_whole _) rM (Memref.isWhole_whole _) cc0_scratch4 cc0_scratch5 cc0_scratch6 cc0_scratch7 cc0_scratch8 c v2 v122 v123 v124 v125 v126) Φ) := by
  rw [k0_part5_eq_skeleton]
  unfold k0_part5_skel
  simp only [semSignalWord, semWaitWord, Prog.lift, Prog.bind_op, Prog.bind_ret, Prog.pure_eq_ret, wp_deviceId]
  iintro ⟨#HC, HG, HO⟩ Hk
  iapply (signal m K c ⟨k0_dev8 c, k0_dev8_lt c⟩ 8 (peer8 c).1 (peer8 c).2 _ rfl) $$ [HG HO]
  · isplitr; · iexact HC
    isplitl [HG]; · iexact HG
    iexact HO
  iintro ⟨HG, HO⟩
  iapply (signal m K c ⟨k0_dev9 c, k0_dev9_lt c⟩ 9 (peer9 c).1 (peer9 c).2 _ rfl) $$ [HG HO]
  · isplitr; · iexact HC
    isplitl [HG]; · iexact HG
    iexact HO
  iintro ⟨HG, HO⟩
  iapply (done c)
  iapply Hk
  isplitl [HG]; · iexact HG
  iexact HO

/-- The devices at distances 10 to 11 are signalled. -/
theorem part6 (v2 v160 : BitVec 32) {Φ : _ → sProp 𝕄} :
    iprop(ctx m K ∗ Sg c 10 ∗ Ow c 0 10)
      ⊢ iprop((∀ v, (Sg c 12 ∗ Ow c 0 12) -∗ Φ v) -∗ WP c (k0_part6 xM (Memref.isWhole_whole _) wM (Memref.isWhole_whole _) oM (Memref.isWhole_whole _) xvM (Memref.isWhole_whole _) wvM (Memref.isWhole_whole _) sM (Memref.isWhole_whole _) rM (Memref.isWhole_whole _) cc0_scratch4 cc0_scratch5 cc0_scratch6 cc0_scratch7 cc0_scratch8 c v2 v160) Φ) := by
  rw [k0_part6_eq_skeleton]
  unfold k0_part6_skel
  simp only [semSignalWord, semWaitWord, Prog.lift, Prog.bind_op, Prog.bind_ret, Prog.pure_eq_ret, wp_deviceId]
  iintro ⟨#HC, HG, HO⟩ Hk
  iapply (signal m K c ⟨k0_dev10 c, k0_dev10_lt c⟩ 10 (peer10 c).1 (peer10 c).2 _ rfl) $$ [HG HO]
  · isplitr; · iexact HC
    isplitl [HG]; · iexact HG
    iexact HO
  iintro ⟨HG, HO⟩
  iapply (signal m K c ⟨k0_dev11 c, k0_dev11_lt c⟩ 11 (peer11 c).1 (peer11 c).2 _ rfl) $$ [HG HO]
  · isplitr; · iexact HC
    isplitl [HG]; · iexact HG
    iexact HO
  iintro ⟨HG, HO⟩
  iapply (done c)
  iapply Hk
  isplitl [HG]; · iexact HG
  iexact HO

/-- The devices at distances 12 to 14 are signalled. -/
theorem part7 (v2 : BitVec 32) {Φ : _ → sProp 𝕄} :
    iprop(ctx m K ∗ Sg c 12 ∗ Ow c 0 12)
      ⊢ iprop((∀ v, (Sg c 15 ∗ Ow c 0 15) -∗ Φ v) -∗ WP c (k0_part7 xM (Memref.isWhole_whole _) wM (Memref.isWhole_whole _) oM (Memref.isWhole_whole _) xvM (Memref.isWhole_whole _) wvM (Memref.isWhole_whole _) sM (Memref.isWhole_whole _) rM (Memref.isWhole_whole _) cc0_scratch4 cc0_scratch5 cc0_scratch6 cc0_scratch7 cc0_scratch8 c v2) Φ) := by
  rw [k0_part7_eq_skeleton]
  unfold k0_part7_skel
  simp only [semSignalWord, semWaitWord, Prog.lift, Prog.bind_op, Prog.bind_ret, Prog.pure_eq_ret, wp_deviceId]
  iintro ⟨#HC, HG, HO⟩ Hk
  iapply (signal m K c ⟨k0_dev12 c, k0_dev12_lt c⟩ 12 (peer12 c).1 (peer12 c).2 _ rfl) $$ [HG HO]
  · isplitr; · iexact HC
    isplitl [HG]; · iexact HG
    iexact HO
  iintro ⟨HG, HO⟩
  iapply (signal m K c ⟨k0_dev13 c, k0_dev13_lt c⟩ 13 (peer13 c).1 (peer13 c).2 _ rfl) $$ [HG HO]
  · isplitr; · iexact HC
    isplitl [HG]; · iexact HG
    iexact HO
  iintro ⟨HG, HO⟩
  iapply (signal m K c ⟨k0_dev14 c, k0_dev14_lt c⟩ 14 (peer14 c).1 (peer14 c).2 _ rfl) $$ [HG HO]
  · isplitr; · iexact HC
    isplitl [HG]; · iexact HG
    iexact HO
  iintro ⟨HG, HO⟩
  iapply (done c)
  iapply Hk
  isplitl [HG]; · iexact HG
  iexact HO

/-- The last device is signalled; the rows have arrived; the fourth chunk's copy is started, and the first chunk's product formed. -/
theorem part8 (v225 v16 : BitVec 32) (v226 : BitVec 1) {Φ : _ → sProp 𝕄} :
    iprop(ctx m K ∗ cred (tallyAt (xCell c) () xN) ∗ atPos ER (xCell c) 0 ∅ 0 ∗ Wst m c 3 0 ∗ Sg c 15 ∗ Ow c 0 15)
      ⊢ iprop(((xPay m c ∗ atPos ER (xCell c) 1 ∅ 0 ∗ Wst m c 4 1 ∗ Sg c 16 ∗ Ow c 0 16) -∗ Φ ⟨(k0_pay1 (xc m c)), k0_pay2 (xc m c) (wc m c 0), k0_pay3 (xc m c) (wc m c 0), k0_pay4 (xc m c) (wc m c 0)⟩) -∗ WP c (k0_part8 xM (Memref.isWhole_whole _) wM (Memref.isWhole_whole _) oM (Memref.isWhole_whole _) xvM (Memref.isWhole_whole _) wvM (Memref.isWhole_whole _) sM (Memref.isWhole_whole _) rM (Memref.isWhole_whole _) cc0_scratch4 cc0_scratch5 cc0_scratch6 cc0_scratch7 cc0_scratch8 c v225 v16 v226) Φ) := by
  rw [k0_part8_eq_skeleton]
  unfold k0_part8_skel
  simp only [semSignalWord, semWaitWord, Prog.lift, Prog.bind_op, Prog.bind_ret, Prog.pure_eq_ret, wp_deviceId]
  iintro ⟨#HC, HXC, HXA, HW, HG, HO⟩ Hk
  iapply (signal m K c ⟨k0_dev15 c, k0_dev15_lt c⟩ 15 (peer15 c).1 (peer15 c).2 _ rfl) $$ [HG HO]
  · isplitr; · iexact HC
    isplitl [HG]; · iexact HG
    iexact HO
  iintro ⟨HG, HO⟩
  iapply (x_wait m K c 0 16) $$ [HXC HXA HO]
  · isplitr; · iexact HC
    isplitl [HXC]; · iexact HXC
    isplitl [HXA]; · iexact HXA
    iexact HO
  iintro ⟨HX, HXA, HO⟩
  iapply (x_load m c) $$ [HX]
  · iexact HX
  iintro HX
  iapply (w_start m K c (3 : Fin 8) 0 (by decide)) $$ [HW]
  · isplitr; · iexact HC
    iexact HW
  iintro HW
  iapply (w_wait m K c (0 : Fin 8) 4 (by decide) 0 16) $$ [HW HO]
  · isplitr; · iexact HC
    isplitl [HW]; · iexact HW
    iexact HO
  iintro ⟨HW, HO⟩
  iapply (w_load m c (0 : Fin 8) 4 1 (by decide)) $$ [HW]
  · iexact HW
  iintro HW
  iapply (done c)
  iapply Hk
  isplitl [HX]; · iexact HX
  isplitl [HXA]; · iexact HXA
  isplitl [HW]; · iexact HW
  isplitl [HG]; · iexact HG
  iexact HO

/-- The first two blocks are sent or kept, once every peer is ready. -/
theorem part9 (v2 : BitVec 32) {Φ : _ → sProp 𝕄} :
    iprop(ctx m K ∗ cred (tallyAt (readyCell c) () 15) ∗ atPos ER (readyCell c) 0 ∅ 0 ∗ Wst m c 4 1 ∗ Sn m c 0 ∗ Out m c (own c 0) ∗ Ow c 0 16)
      ⊢ iprop(((atPos ER (readyCell c) 1 ∅ 0 ∗ Wst m c 5 1 ∗ Sn m c 4 ∗ Pr c 2 ∗ Out m c (own c 2) ∗ Ow c 2 16) -∗ Φ ⟨⟩) -∗ WP c (k0_part9 xM (Memref.isWhole_whole _) wM (Memref.isWhole_whole _) oM (Memref.isWhole_whole _) xvM (Memref.isWhole_whole _) wvM (Memref.isWhole_whole _) sM (Memref.isWhole_whole _) rM (Memref.isWhole_whole _) cc0_scratch4 cc0_scratch5 cc0_scratch6 cc0_scratch7 cc0_scratch8 c v2 (k0_pay2 (xc m c) (wc m c 0)) (k0_pay3 (xc m c) (wc m c 0)) (k0_pay4 (xc m c) (wc m c 0))) Φ) := by
  rw [k0_part9_eq_skeleton]
  unfold k0_part9_skel
  simp only [semSignalWord, semWaitWord, Prog.lift, Prog.bind_op, Prog.bind_ret, Prog.pure_eq_ret, wp_deviceId]
  iintro ⟨#HC, HRC, HRA, HW, HS, HA, HO⟩ Hk
  iapply (fill m c (0 : Dev nD) _ (full_lo m c 0 0 rfl)) $$ [HS]
  · iexact HS
  iintro HS
  iapply (barrier m K c _ rfl) $$ [HRC HRA HO]
  · isplitr; · iexact HC
    isplitl [HRC]; · iexact HRC
    isplitl [HRA]; · iexact HRA
    iexact HO
  iintro ⟨HP, HRA, HO⟩
  iapply (send_if m K c (0 : Dev nD) _ (send0 c) _ k0_dev16_eq _ _ (k0_off1_eq c) _ _ _ _ _ _) $$ [HS HP HO]
  · isplitr; · iexact HC
    isplitl [HS]; · iexact HS
    isplitl [HP]; · iexact HP
    iexact HO
  iintro ⟨HS, HP, HO⟩
  iapply (own_if m c (0 : Dev nD) _ (own0 c) _ (k0_off2_eq c) _ _ (sub_lo m c 0 0 rfl) _ _ _) $$ [HA]
  · iexact HA
  iintro HA
  iapply (fill m c (1 : Dev nD) _ (full_hi m c 0 1 rfl)) $$ [HS]
  · iexact HS
  iintro HS
  iapply (send_if m K c (1 : Dev nD) _ (send1 c) _ k0_dev17_eq _ _ (k0_off3_eq c) _ _ _ _ _ _) $$ [HS HP HO]
  · isplitr; · iexact HC
    isplitl [HS]; · iexact HS
    isplitl [HP]; · iexact HP
    iexact HO
  iintro ⟨HS, HP, HO⟩
  iapply (own_if m c (1 : Dev nD) _ (own1 c) _ (k0_off4_eq c) _ _ (sub_hi m c 0 1 rfl) _ _ _) $$ [HA]
  · iexact HA
  iintro HA
  iapply (w_start m K c (4 : Fin 8) 1 (by decide)) $$ [HW]
  · isplitr; · iexact HC
    iexact HW
  iintro HW
  iapply (done c)
  iapply Hk
  isplitl [HRA]; · iexact HRA
  isplitl [HW]; · iexact HW
  isplitl [HS]; · iexact HS
  isplitl [HP]; · iexact HP
  isplitl [HA]; · iexact HA
  iexact HO

/-- Blocks 2 and 3. -/
theorem part10 (v2 : BitVec 32) {Φ : _ → sProp 𝕄} :
    iprop(ctx m K ∗ Wst m c 5 1 ∗ Sn m c 4 ∗ Pr c 2 ∗ Out m c (own c 2) ∗ Ow c 2 16)
      ⊢ iprop(((Wst m c 5 2 ∗ Sn m c 8 ∗ Pr c 4 ∗ Out m c (own c 4) ∗ Ow c 4 16) -∗ Φ ⟨⟩) -∗ WP c (k0_part10 xM (Memref.isWhole_whole _) wM (Memref.isWhole_whole _) oM (Memref.isWhole_whole _) xvM (Memref.isWhole_whole _) wvM (Memref.isWhole_whole _) sM (Memref.isWhole_whole _) rM (Memref.isWhole_whole _) cc0_scratch4 cc0_scratch5 cc0_scratch6 cc0_scratch7 cc0_scratch8 c v2 (k0_pay1 (xc m c))) Φ) := by
  rw [k0_part10_eq_skeleton]
  unfold k0_part10_skel
  simp only [semSignalWord, semWaitWord, Prog.lift, Prog.bind_op, Prog.bind_ret, Prog.pure_eq_ret, wp_deviceId]
  iintro ⟨#HC, HW, HS, HP, HA, HO⟩ Hk
  iapply (w_wait m K c (1 : Fin 8) 5 (by decide) 2 16) $$ [HW HO]
  · isplitr; · iexact HC
    isplitl [HW]; · iexact HW
    iexact HO
  iintro ⟨HW, HO⟩
  iapply (w_load m c (1 : Fin 8) 5 2 (by decide)) $$ [HW]
  · iexact HW
  iintro HW
  iapply (fill m c (2 : Dev nD) _ (full_lo m c 1 2 rfl)) $$ [HS]
  · iexact HS
  iintro HS
  iapply (send_if m K c (2 : Dev nD) _ (send2 c) _ k0_dev18_eq _ _ (k0_off5_eq c) _ _ _ _ _ _) $$ [HS HP HO]
  · isplitr; · iexact HC
    isplitl [HS]; · iexact HS
    isplitl [HP]; · iexact HP
    iexact HO
  iintro ⟨HS, HP, HO⟩
  iapply (own_if m c (2 : Dev nD) _ (own2 c) _ (k0_off6_eq c) _ _ (sub_lo m c 1 2 rfl) _ _ _) $$ [HA]
  · iexact HA
  iintro HA
  iapply (fill m c (3 : Dev nD) _ (full_hi m c 1 3 rfl)) $$ [HS]
  · iexact HS
  iintro HS
  iapply (send_if m K c (3 : Dev nD) _ (send3 c) _ k0_dev19_eq _ _ (k0_off7_eq c) _ _ _ _ _ _) $$ [HS HP HO]
  · isplitr; · iexact HC
    isplitl [HS]; · iexact HS
    isplitl [HP]; · iexact HP
    iexact HO
  iintro ⟨HS, HP, HO⟩
  iapply (own_if m c (3 : Dev nD) _ (own3 c) _ (k0_off8_eq c) _ _ (sub_hi m c 1 3 rfl) _ _ _) $$ [HA]
  · iexact HA
  iintro HA
  iapply (done c)
  iapply Hk
  isplitl [HW]; · iexact HW
  isplitl [HS]; · iexact HS
  isplitl [HP]; · iexact HP
  isplitl [HA]; · iexact HA
  iexact HO

/-- Blocks 4 and 5, the latter not yet kept. -/
theorem part11 (v2 : BitVec 32) {Φ : _ → sProp 𝕄} :
    iprop(ctx m K ∗ Wst m c 5 2 ∗ Sn m c 8 ∗ Pr c 4 ∗ Out m c (own c 4) ∗ Ow c 4 16)
      ⊢ iprop(((Wst m c 6 3 ∗ Sn m c 12 ∗ Pr c 6 ∗ Out m c (own c 5) ∗ Ow c 6 16) -∗ Φ (k0_pay16 (k0_pay1 (xc m c)) (wc m c 2))) -∗ WP c (k0_part11 xM (Memref.isWhole_whole _) wM (Memref.isWhole_whole _) oM (Memref.isWhole_whole _) xvM (Memref.isWhole_whole _) wvM (Memref.isWhole_whole _) sM (Memref.isWhole_whole _) rM (Memref.isWhole_whole _) cc0_scratch4 cc0_scratch5 cc0_scratch6 cc0_scratch7 cc0_scratch8 c v2 (k0_pay1 (xc m c))) Φ) := by
  rw [k0_part11_eq_skeleton]
  unfold k0_part11_skel
  simp only [semSignalWord, semWaitWord, Prog.lift, Prog.bind_op, Prog.bind_ret, Prog.pure_eq_ret, wp_deviceId]
  iintro ⟨#HC, HW, HS, HP, HA, HO⟩ Hk
  iapply (w_start m K c (5 : Fin 8) 2 (by decide)) $$ [HW]
  · isplitr; · iexact HC
    iexact HW
  iintro HW
  iapply (w_wait m K c (2 : Fin 8) 6 (by decide) 4 16) $$ [HW HO]
  · isplitr; · iexact HC
    isplitl [HW]; · iexact HW
    iexact HO
  iintro ⟨HW, HO⟩
  iapply (w_load m c (2 : Fin 8) 6 3 (by decide)) $$ [HW]
  · iexact HW
  iintro HW
  iapply (fill m c (4 : Dev nD) _ (full_lo m c 2 4 rfl)) $$ [HS]
  · iexact HS
  iintro HS
  iapply (send_if m K c (4 : Dev nD) _ (send4 c) _ k0_dev20_eq _ _ (k0_off9_eq c) _ _ _ _ _ _) $$ [HS HP HO]
  · isplitr; · iexact HC
    isplitl [HS]; · iexact HS
    isplitl [HP]; · iexact HP
    iexact HO
  iintro ⟨HS, HP, HO⟩
  iapply (own_if m c (4 : Dev nD) _ (own4 c) _ (k0_off10_eq c) _ _ (sub_lo m c 2 4 rfl) _ _ _) $$ [HA]
  · iexact HA
  iintro HA
  iapply (fill m c (5 : Dev nD) _ (full_hi m c 2 5 rfl)) $$ [HS]
  · iexact HS
  iintro HS
  iapply (send_if m K c (5 : Dev nD) _ (send5 c) _ k0_dev21_eq _ _ (k0_off11_eq c) _ _ _ _ _ _) $$ [HS HP HO]
  · isplitr; · iexact HC
    isplitl [HS]; · iexact HS
    isplitl [HP]; · iexact HP
    iexact HO
  iintro ⟨HS, HP, HO⟩
  iapply (done c)
  iapply Hk
  isplitl [HW]; · iexact HW
  isplitl [HS]; · iexact HS
  isplitl [HP]; · iexact HP
  isplitl [HA]; · iexact HA
  iexact HO

/-- Block 5 is kept; block 6. -/
theorem part12 (v2 : BitVec 32) {Φ : _ → sProp 𝕄} :
    iprop(ctx m K ∗ Wst m c 6 3 ∗ Sn m c 12 ∗ Pr c 6 ∗ Out m c (own c 5) ∗ Ow c 6 16)
      ⊢ iprop(((Wst m c 7 4 ∗ Sn m c 14 ∗ Pr c 7 ∗ Out m c (own c 7) ∗ Ow c 7 16) -∗ Φ ⟨k0_pay21 (k0_pay1 (xc m c)) (wc m c 3), k0_pay22 (k0_pay1 (xc m c)) (wc m c 3)⟩) -∗ WP c (k0_part12 xM (Memref.isWhole_whole _) wM (Memref.isWhole_whole _) oM (Memref.isWhole_whole _) xvM (Memref.isWhole_whole _) wvM (Memref.isWhole_whole _) sM (Memref.isWhole_whole _) rM (Memref.isWhole_whole _) cc0_scratch4 cc0_scratch5 cc0_scratch6 cc0_scratch7 cc0_scratch8 c v2 (k0_pay1 (xc m c)) (k0_pay16 (k0_pay1 (xc m c)) (wc m c 2))) Φ) := by
  rw [k0_part12_eq_skeleton]
  unfold k0_part12_skel
  simp only [semSignalWord, semWaitWord, Prog.lift, Prog.bind_op, Prog.bind_ret, Prog.pure_eq_ret, wp_deviceId]
  iintro ⟨#HC, HW, HS, HP, HA, HO⟩ Hk
  iapply (own_if m c (5 : Dev nD) _ (own5 c) _ (k0_off12_eq c) _ _ (sub_hi m c 2 5 rfl) _ _ _) $$ [HA]
  · iexact HA
  iintro HA
  iapply (w_start m K c (6 : Fin 8) 3 (by decide)) $$ [HW]
  · isplitr; · iexact HC
    iexact HW
  iintro HW
  iapply (w_wait m K c (3 : Fin 8) 7 (by decide) 6 16) $$ [HW HO]
  · isplitr; · iexact HC
    isplitl [HW]; · iexact HW
    iexact HO
  iintro ⟨HW, HO⟩
  iapply (w_load m c (3 : Fin 8) 7 4 (by decide)) $$ [HW]
  · iexact HW
  iintro HW
  iapply (fill m c (6 : Dev nD) _ (full_lo m c 3 6 rfl)) $$ [HS]
  · iexact HS
  iintro HS
  iapply (send_if m K c (6 : Dev nD) _ (send6 c) _ k0_dev22_eq _ _ (k0_off13_eq c) _ _ _ _ _ _) $$ [HS HP HO]
  · isplitr; · iexact HC
    isplitl [HS]; · iexact HS
    isplitl [HP]; · iexact HP
    iexact HO
  iintro ⟨HS, HP, HO⟩
  iapply (own_if m c (6 : Dev nD) _ (own6 c) _ (k0_off14_eq c) _ _ (sub_lo m c 3 6 rfl) _ _ _) $$ [HA]
  · iexact HA
  iintro HA
  iapply (done c)
  iapply Hk
  isplitl [HW]; · iexact HW
  isplitl [HS]; · iexact HS
  isplitl [HP]; · iexact HP
  isplitl [HA]; · iexact HA
  iexact HO

/-- Block 7; block 8 is laid out. -/
theorem part13 (v2 : BitVec 32) {Φ : _ → sProp 𝕄} :
    iprop(ctx m K ∗ Wst m c 7 4 ∗ Sn m c 14 ∗ Pr c 7 ∗ Out m c (own c 7) ∗ Ow c 7 16)
      ⊢ iprop(((Wst m c 8 5 ∗ Sn m c 17 ∗ Pr c 8 ∗ Out m c (own c 8) ∗ Ow c 8 16) -∗ Φ ⟨k0_pay24 (k0_pay1 (xc m c)) (wc m c 4), k0_pay25 (k0_pay1 (xc m c)) (wc m c 4)⟩) -∗ WP c (k0_part13 xM (Memref.isWhole_whole _) wM (Memref.isWhole_whole _) oM (Memref.isWhole_whole _) xvM (Memref.isWhole_whole _) wvM (Memref.isWhole_whole _) sM (Memref.isWhole_whole _) rM (Memref.isWhole_whole _) cc0_scratch4 cc0_scratch5 cc0_scratch6 cc0_scratch7 cc0_scratch8 c v2 (k0_pay1 (xc m c)) (k0_pay21 (k0_pay1 (xc m c)) (wc m c 3)) (k0_pay22 (k0_pay1 (xc m c)) (wc m c 3))) Φ) := by
  rw [k0_part13_eq_skeleton]
  unfold k0_part13_skel
  simp only [semSignalWord, semWaitWord, Prog.lift, Prog.bind_op, Prog.bind_ret, Prog.pure_eq_ret, wp_deviceId]
  iintro ⟨#HC, HW, HS, HP, HA, HO⟩ Hk
  iapply (fill m c (7 : Dev nD) _ (full_hi m c 3 7 rfl)) $$ [HS]
  · iexact HS
  iintro HS
  iapply (send_if m K c (7 : Dev nD) _ (send7 c) _ k0_dev23_eq _ _ (k0_off15_eq c) _ _ _ _ _ _) $$ [HS HP HO]
  · isplitr; · iexact HC
    isplitl [HS]; · iexact HS
    isplitl [HP]; · iexact HP
    iexact HO
  iintro ⟨HS, HP, HO⟩
  iapply (own_if m c (7 : Dev nD) _ (own7 c) _ (k0_off16_eq c) _ _ (sub_hi m c 3 7 rfl) _ _ _) $$ [HA]
  · iexact HA
  iintro HA
  iapply (w_start m K c (7 : Fin 8) 4 (by decide)) $$ [HW]
  · isplitr; · iexact HC
    iexact HW
  iintro HW
  iapply (w_wait m K c (4 : Fin 8) 8 (by decide) 8 16) $$ [HW HO]
  · isplitr; · iexact HC
    isplitl [HW]; · iexact HW
    iexact HO
  iintro ⟨HW, HO⟩
  iapply (w_load m c (4 : Fin 8) 8 5 (by decide)) $$ [HW]
  · iexact HW
  iintro HW
  iapply (fill m c (8 : Dev nD) _ (full_lo m c 4 8 rfl)) $$ [HS]
  · iexact HS
  iintro HS
  iapply (done c)
  iapply Hk
  isplitl [HW]; · iexact HW
  isplitl [HS]; · iexact HS
  isplitl [HP]; · iexact HP
  isplitl [HA]; · iexact HA
  iexact HO

/-- Blocks 8 and 9; block 10 is laid out. -/
theorem part14 {Φ : _ → sProp 𝕄} :
    iprop(ctx m K ∗ Wst m c 8 5 ∗ Sn m c 17 ∗ Pr c 8 ∗ Out m c (own c 8) ∗ Ow c 8 16)
      ⊢ iprop(((Wst m c 8 6 ∗ Sn m c 21 ∗ Pr c 10 ∗ Out m c (own c 10) ∗ Ow c 10 16) -∗ Φ ⟨k0_pay29 (k0_pay1 (xc m c)) (wc m c 5), k0_pay30 (k0_pay1 (xc m c)) (wc m c 5), Scalar.extui (Scalar.cmpi .ne (num c) 10#32), 0#32⟩) -∗ WP c (k0_part14 xM (Memref.isWhole_whole _) wM (Memref.isWhole_whole _) oM (Memref.isWhole_whole _) xvM (Memref.isWhole_whole _) wvM (Memref.isWhole_whole _) sM (Memref.isWhole_whole _) rM (Memref.isWhole_whole _) cc0_scratch4 cc0_scratch5 cc0_scratch6 cc0_scratch7 cc0_scratch8 c (num c) (k0_pay1 (xc m c)) (k0_pay24 (k0_pay1 (xc m c)) (wc m c 4)) (k0_pay25 (k0_pay1 (xc m c)) (wc m c 4))) Φ) := by
  rw [k0_part14_eq_skeleton]
  unfold k0_part14_skel
  simp only [semSignalWord, semWaitWord, Prog.lift, Prog.bind_op, Prog.bind_ret, Prog.pure_eq_ret, wp_deviceId]
  iintro ⟨#HC, HW, HS, HP, HA, HO⟩ Hk
  iapply (send_if m K c (8 : Dev nD) _ (send8 c) _ k0_dev24_eq _ _ (k0_off17_eq c) _ _ _ _ _ _) $$ [HS HP HO]
  · isplitr; · iexact HC
    isplitl [HS]; · iexact HS
    isplitl [HP]; · iexact HP
    iexact HO
  iintro ⟨HS, HP, HO⟩
  iapply (own_if m c (8 : Dev nD) _ (own8 c) _ (k0_off18_eq c) _ _ (sub_lo m c 4 8 rfl) _ _ _) $$ [HA]
  · iexact HA
  iintro HA
  iapply (fill m c (9 : Dev nD) _ (full_hi m c 4 9 rfl)) $$ [HS]
  · iexact HS
  iintro HS
  iapply (send_if m K c (9 : Dev nD) _ (send9 c) _ k0_dev25_eq _ _ (k0_off19_eq c) _ _ _ _ _ _) $$ [HS HP HO]
  · isplitr; · iexact HC
    isplitl [HS]; · iexact HS
    isplitl [HP]; · iexact HP
    iexact HO
  iintro ⟨HS, HP, HO⟩
  iapply (own_if m c (9 : Dev nD) _ (own9 c) _ (k0_off20_eq c) _ _ (sub_hi m c 4 9 rfl) _ _ _) $$ [HA]
  · iexact HA
  iintro HA
  iapply (w_wait m K c (5 : Fin 8) 8 (by decide) 10 16) $$ [HW HO]
  · isplitr; · iexact HC
    isplitl [HW]; · iexact HW
    iexact HO
  iintro ⟨HW, HO⟩
  iapply (w_load m c (5 : Fin 8) 8 6 (by decide)) $$ [HW]
  · iexact HW
  iintro HW
  iapply (fill m c (10 : Dev nD) _ (full_lo m c 5 10 rfl)) $$ [HS]
  · iexact HS
  iintro HS
  iapply (done c)
  iapply Hk
  isplitl [HW]; · iexact HW
  isplitl [HS]; · iexact HS
  isplitl [HP]; · iexact HP
  isplitl [HA]; · iexact HA
  iexact HO

/-- Blocks 10 and 11; block 12 is laid out. -/
theorem part15 {Φ : _ → sProp 𝕄} :
    iprop(ctx m K ∗ Wst m c 8 6 ∗ Sn m c 21 ∗ Pr c 10 ∗ Out m c (own c 10) ∗ Ow c 10 16)
      ⊢ iprop(((Wst m c 8 7 ∗ Sn m c 25 ∗ Pr c 12 ∗ Out m c (own c 12) ∗ Ow c 12 16) -∗ Φ ⟨k0_pay34 (k0_pay1 (xc m c)) (wc m c 6), k0_pay35 (k0_pay1 (xc m c)) (wc m c 6), Scalar.extui (Scalar.cmpi .ne (num c) 12#32)⟩) -∗ WP c (k0_part15 xM (Memref.isWhole_whole _) wM (Memref.isWhole_whole _) oM (Memref.isWhole_whole _) xvM (Memref.isWhole_whole _) wvM (Memref.isWhole_whole _) sM (Memref.isWhole_whole _) rM (Memref.isWhole_whole _) cc0_scratch4 cc0_scratch5 cc0_scratch6 cc0_scratch7 cc0_scratch8 c (num c) (k0_pay1 (xc m c)) (k0_pay29 (k0_pay1 (xc m c)) (wc m c 5)) (k0_pay30 (k0_pay1 (xc m c)) (wc m c 5)) (Scalar.extui (Scalar.cmpi .ne (num c) 10#32)) 0#32) Φ) := by
  rw [k0_part15_eq_skeleton]
  unfold k0_part15_skel
  simp only [semSignalWord, semWaitWord, Prog.lift, Prog.bind_op, Prog.bind_ret, Prog.pure_eq_ret, wp_deviceId]
  iintro ⟨#HC, HW, HS, HP, HA, HO⟩ Hk
  iapply (send_if m K c (10 : Dev nD) _ (send10 c) _ k0_dev26_eq _ _ (k0_off21_eq c) _ _ _ _ _ _) $$ [HS HP HO]
  · isplitr; · iexact HC
    isplitl [HS]; · iexact HS
    isplitl [HP]; · iexact HP
    iexact HO
  iintro ⟨HS, HP, HO⟩
  iapply (own_if m c (10 : Dev nD) _ (own10 c) _ (k0_off22_eq c) _ _ (sub_lo m c 5 10 rfl) _ _ _) $$ [HA]
  · iexact HA
  iintro HA
  iapply (fill m c (11 : Dev nD) _ (full_hi m c 5 11 rfl)) $$ [HS]
  · iexact HS
  iintro HS
  iapply (send_if m K c (11 : Dev nD) _ (send11 c) _ k0_dev27_eq _ _ (k0_off23_eq c) _ _ _ _ _ _) $$ [HS HP HO]
  · isplitr; · iexact HC
    isplitl [HS]; · iexact HS
    isplitl [HP]; · iexact HP
    iexact HO
  iintro ⟨HS, HP, HO⟩
  iapply (own_if m c (11 : Dev nD) _ (own11 c) _ (k0_off24_eq c) _ _ (sub_hi m c 5 11 rfl) _ _ _) $$ [HA]
  · iexact HA
  iintro HA
  iapply (w_wait m K c (6 : Fin 8) 8 (by decide) 12 16) $$ [HW HO]
  · isplitr; · iexact HC
    isplitl [HW]; · iexact HW
    iexact HO
  iintro ⟨HW, HO⟩
  iapply (w_load m c (6 : Fin 8) 8 7 (by decide)) $$ [HW]
  · iexact HW
  iintro HW
  iapply (fill m c (12 : Dev nD) _ (full_lo m c 6 12 rfl)) $$ [HS]
  · iexact HS
  iintro HS
  iapply (done c)
  iapply Hk
  isplitl [HW]; · iexact HW
  isplitl [HS]; · iexact HS
  isplitl [HP]; · iexact HP
  isplitl [HA]; · iexact HA
  iexact HO

/-- Blocks 12 and 13; block 14 is laid out. -/
theorem part16 {Φ : _ → sProp 𝕄} :
    iprop(ctx m K ∗ Wst m c 8 7 ∗ Sn m c 25 ∗ Pr c 12 ∗ Out m c (own c 12) ∗ Ow c 12 16)
      ⊢ iprop(((Wst m c 8 8 ∗ Sn m c 29 ∗ Pr c 14 ∗ Out m c (own c 14) ∗ Ow c 14 16) -∗ Φ ⟨k0_pay39 (k0_pay1 (xc m c)) (wc m c 7), k0_pay40 (k0_pay1 (xc m c)) (wc m c 7), Scalar.cmpi .ne (num c) 14#32⟩) -∗ WP c (k0_part16 xM (Memref.isWhole_whole _) wM (Memref.isWhole_whole _) oM (Memref.isWhole_whole _) xvM (Memref.isWhole_whole _) wvM (Memref.isWhole_whole _) sM (Memref.isWhole_whole _) rM (Memref.isWhole_whole _) cc0_scratch4 cc0_scratch5 cc0_scratch6 cc0_scratch7 cc0_scratch8 c (num c) (k0_pay1 (xc m c)) (k0_pay34 (k0_pay1 (xc m c)) (wc m c 6)) (k0_pay35 (k0_pay1 (xc m c)) (wc m c 6)) (Scalar.extui (Scalar.cmpi .ne (num c) 12#32))) Φ) := by
  rw [k0_part16_eq_skeleton]
  unfold k0_part16_skel
  simp only [semSignalWord, semWaitWord, Prog.lift, Prog.bind_op, Prog.bind_ret, Prog.pure_eq_ret, wp_deviceId]
  iintro ⟨#HC, HW, HS, HP, HA, HO⟩ Hk
  iapply (send_if m K c (12 : Dev nD) _ (send12 c) _ k0_dev28_eq _ _ (k0_off25_eq c) _ _ _ _ _ _) $$ [HS HP HO]
  · isplitr; · iexact HC
    isplitl [HS]; · iexact HS
    isplitl [HP]; · iexact HP
    iexact HO
  iintro ⟨HS, HP, HO⟩
  iapply (own_if m c (12 : Dev nD) _ (own12 c) _ (k0_off26_eq c) _ _ (sub_lo m c 6 12 rfl) _ _ _) $$ [HA]
  · iexact HA
  iintro HA
  iapply (fill m c (13 : Dev nD) _ (full_hi m c 6 13 rfl)) $$ [HS]
  · iexact HS
  iintro HS
  iapply (send_if m K c (13 : Dev nD) _ (send13 c) _ k0_dev29_eq _ _ (k0_off27_eq c) _ _ _ _ _ _) $$ [HS HP HO]
  · isplitr; · iexact HC
    isplitl [HS]; · iexact HS
    isplitl [HP]; · iexact HP
    iexact HO
  iintro ⟨HS, HP, HO⟩
  iapply (own_if m c (13 : Dev nD) _ (own13 c) _ (k0_off28_eq c) _ _ (sub_hi m c 6 13 rfl) _ _ _) $$ [HA]
  · iexact HA
  iintro HA
  iapply (w_wait m K c (7 : Fin 8) 8 (by decide) 14 16) $$ [HW HO]
  · isplitr; · iexact HC
    isplitl [HW]; · iexact HW
    iexact HO
  iintro ⟨HW, HO⟩
  iapply (w_load m c (7 : Fin 8) 8 8 (by decide)) $$ [HW]
  · iexact HW
  iintro HW
  iapply (fill m c (14 : Dev nD) _ (full_lo m c 7 14 rfl)) $$ [HS]
  · iexact HS
  iintro HS
  iapply (done c)
  iapply Hk
  isplitl [HW]; · iexact HW
  isplitl [HS]; · iexact HS
  isplitl [HP]; · iexact HP
  isplitl [HA]; · iexact HA
  iexact HO

/-- Blocks 14 and 15, and the first wait for a block. -/
theorem part17 {Φ : _ → sProp 𝕄} :
    iprop(ctx m K ∗ Sn m c 29 ∗ Pr c 14 ∗ Out m c (own c 14) ∗ Rv m c 0 ∗ Ow c 14 16)
      ⊢ iprop(((Sn m c 32 ∗ Out m c (own c 16) ∗ Rv m c 1 ∗ Ow c 16 16) -∗ Φ ⟨⟩) -∗ WP c (k0_part17 xM (Memref.isWhole_whole _) wM (Memref.isWhole_whole _) oM (Memref.isWhole_whole _) xvM (Memref.isWhole_whole _) wvM (Memref.isWhole_whole _) sM (Memref.isWhole_whole _) rM (Memref.isWhole_whole _) cc0_scratch4 cc0_scratch5 cc0_scratch6 cc0_scratch7 cc0_scratch8 c (num c) (k0_pay39 (k0_pay1 (xc m c)) (wc m c 7)) (k0_pay40 (k0_pay1 (xc m c)) (wc m c 7)) (Scalar.cmpi .ne (num c) 14#32)) Φ) := by
  rw [k0_part17_eq_skeleton]
  unfold k0_part17_skel
  simp only [semSignalWord, semWaitWord, Prog.lift, Prog.bind_op, Prog.bind_ret, Prog.pure_eq_ret, wp_deviceId]
  iintro ⟨#HC, HS, HP, HA, HR, HO⟩ Hk
  iapply (send_if m K c (14 : Dev nD) _ (send14 c) _ k0_dev30_eq _ _ (k0_off29_eq c) _ _ _ _ _ _) $$ [HS HP HO]
  · isplitr; · iexact HC
    isplitl [HS]; · iexact HS
    isplitl [HP]; · iexact HP
    iexact HO
  iintro ⟨HS, HP, HO⟩
  iapply (own_if m c (14 : Dev nD) _ (own14 c) _ (k0_off30_eq c) _ _ (sub_lo m c 7 14 rfl) _ _ _) $$ [HA]
  · iexact HA
  iintro HA
  iapply (fill m c (15 : Dev nD) _ (full_hi m c 7 15 rfl)) $$ [HS]
  · iexact HS
  iintro HS
  iapply (send_if m K c (15 : Dev nD) _ (send15 c) _ k0_dev31_eq _ _ (k0_off31_eq c) _ _ _ _ _ _) $$ [HS HP HO]
  · isplitr; · iexact HC
    isplitl [HS]; · iexact HS
    isplitl [HP]; · iexact HP
    iexact HO
  iintro ⟨HS, HP, HO⟩
  iapply (own_if m c (15 : Dev nD) _ (own15 c) _ (k0_off32_eq c) _ _ (sub_hi m c 7 15 rfl) _ _ _) $$ [HA]
  · iexact HA
  iintro HA
  iapply (recv_wait m K c 0 (by decide)) $$ [HR HO]
  · isplitr; · iexact HC
    isplitl [HR]; · iexact HR
    iexact HO
  iintro ⟨HR, HO⟩
  iapply (done c)
  iapply Hk
  isplitl [HS]; · iexact HS
  isplitl [HA]; · iexact HA
  isplitl [HR]; · iexact HR
  iexact HO

/-- Four more waits for a block. -/
theorem part18 (v2 : BitVec 32) {Φ : _ → sProp 𝕄} :
    iprop(ctx m K ∗ Rv m c 1 ∗ Ow c 16 16)
      ⊢ iprop(((Rv m c 5 ∗ Ow c 16 16) -∗ Φ ⟨⟩) -∗ WP c (k0_part18 xM (Memref.isWhole_whole _) wM (Memref.isWhole_whole _) oM (Memref.isWhole_whole _) xvM (Memref.isWhole_whole _) wvM (Memref.isWhole_whole _) sM (Memref.isWhole_whole _) rM (Memref.isWhole_whole _) cc0_scratch4 cc0_scratch5 cc0_scratch6 cc0_scratch7 cc0_scratch8 v2) Φ) := by
  rw [k0_part18_eq_skeleton]
  unfold k0_part18_skel
  simp only [semSignalWord, semWaitWord, Prog.lift, Prog.bind_op, Prog.bind_ret, Prog.pure_eq_ret, wp_deviceId]
  iintro ⟨#HC, HR, HO⟩ Hk
  iapply (recv_wait m K c 1 (by decide)) $$ [HR HO]
  · isplitr; · iexact HC
    isplitl [HR]; · iexact HR
    iexact HO
  iintro ⟨HR, HO⟩
  iapply (recv_wait m K c 2 (by decide)) $$ [HR HO]
  · isplitr; · iexact HC
    isplitl [HR]; · iexact HR
    iexact HO
  iintro ⟨HR, HO⟩
  iapply (recv_wait m K c 3 (by decide)) $$ [HR HO]
  · isplitr; · iexact HC
    isplitl [HR]; · iexact HR
    iexact HO
  iintro ⟨HR, HO⟩
  iapply (recv_wait m K c 4 (by decide)) $$ [HR HO]
  · isplitr; · iexact HC
    isplitl [HR]; · iexact HR
    iexact HO
  iintro ⟨HR, HO⟩
  iapply (done c)
  iapply Hk
  isplitl [HR]; · iexact HR
  iexact HO

/-- Four more waits for a block. -/
theorem part19 (v2 : BitVec 32) {Φ : _ → sProp 𝕄} :
    iprop(ctx m K ∗ Rv m c 5 ∗ Ow c 16 16)
      ⊢ iprop((∀ v, (Rv m c 9 ∗ Ow c 16 16) -∗ Φ v) -∗ WP c (k0_part19 xM (Memref.isWhole_whole _) wM (Memref.isWhole_whole _) oM (Memref.isWhole_whole _) xvM (Memref.isWhole_whole _) wvM (Memref.isWhole_whole _) sM (Memref.isWhole_whole _) rM (Memref.isWhole_whole _) cc0_scratch4 cc0_scratch5 cc0_scratch6 cc0_scratch7 cc0_scratch8 v2) Φ) := by
  rw [k0_part19_eq_skeleton]
  unfold k0_part19_skel
  simp only [semSignalWord, semWaitWord, Prog.lift, Prog.bind_op, Prog.bind_ret, Prog.pure_eq_ret, wp_deviceId]
  iintro ⟨#HC, HR, HO⟩ Hk
  iapply (recv_wait m K c 5 (by decide)) $$ [HR HO]
  · isplitr; · iexact HC
    isplitl [HR]; · iexact HR
    iexact HO
  iintro ⟨HR, HO⟩
  iapply (recv_wait m K c 6 (by decide)) $$ [HR HO]
  · isplitr; · iexact HC
    isplitl [HR]; · iexact HR
    iexact HO
  iintro ⟨HR, HO⟩
  iapply (recv_wait m K c 7 (by decide)) $$ [HR HO]
  · isplitr; · iexact HC
    isplitl [HR]; · iexact HR
    iexact HO
  iintro ⟨HR, HO⟩
  iapply (recv_wait m K c 8 (by decide)) $$ [HR HO]
  · isplitr; · iexact HC
    isplitl [HR]; · iexact HR
    iexact HO
  iintro ⟨HR, HO⟩
  iapply (done c)
  iapply Hk
  isplitl [HR]; · iexact HR
  iexact HO

/-- Four more waits for a block. -/
theorem part20 (v2 v566 : BitVec 32) {Φ : _ → sProp 𝕄} :
    iprop(ctx m K ∗ Rv m c 9 ∗ Ow c 16 16)
      ⊢ iprop(((Rv m c 13 ∗ Ow c 16 16) -∗ Φ ⟨⟩) -∗ WP c (k0_part20 xM (Memref.isWhole_whole _) wM (Memref.isWhole_whole _) oM (Memref.isWhole_whole _) xvM (Memref.isWhole_whole _) wvM (Memref.isWhole_whole _) sM (Memref.isWhole_whole _) rM (Memref.isWhole_whole _) cc0_scratch4 cc0_scratch5 cc0_scratch6 cc0_scratch7 cc0_scratch8 v2 v566) Φ) := by
  rw [k0_part20_eq_skeleton]
  unfold k0_part20_skel
  simp only [semSignalWord, semWaitWord, Prog.lift, Prog.bind_op, Prog.bind_ret, Prog.pure_eq_ret, wp_deviceId]
  iintro ⟨#HC, HR, HO⟩ Hk
  iapply (recv_wait m K c 9 (by decide)) $$ [HR HO]
  · isplitr; · iexact HC
    isplitl [HR]; · iexact HR
    iexact HO
  iintro ⟨HR, HO⟩
  iapply (recv_wait m K c 10 (by decide)) $$ [HR HO]
  · isplitr; · iexact HC
    isplitl [HR]; · iexact HR
    iexact HO
  iintro ⟨HR, HO⟩
  iapply (recv_wait m K c 11 (by decide)) $$ [HR HO]
  · isplitr; · iexact HC
    isplitl [HR]; · iexact HR
    iexact HO
  iintro ⟨HR, HO⟩
  iapply (recv_wait m K c 12 (by decide)) $$ [HR HO]
  · isplitr; · iexact HC
    isplitl [HR]; · iexact HR
    iexact HO
  iintro ⟨HR, HO⟩
  iapply (done c)
  iapply Hk
  isplitl [HR]; · iexact HR
  iexact HO

/-- The last two waits: every block has arrived. The blocks of devices 0 to 3 are copied. -/
theorem part21 {Φ : _ → sProp 𝕄} :
    iprop(ctx m K ∗ Rv m c 13 ∗ rAny c c ∗ Out m c (have' c 0) ∗ Ow c 16 16)
      ⊢ iprop(((atPos ER (recvCell c) 1 ∅ 0 ∗ Rb m c ∗ Out m c (have' c 4) ∗ Ow c 16 16) -∗ Φ (Scalar.cmpi .ne (Scalar.extui (Scalar.cmpi .ne (num c) 4#32) : BitVec 32) 0#32)) -∗ WP c (k0_part21 xM (Memref.isWhole_whole _) wM (Memref.isWhole_whole _) oM (Memref.isWhole_whole _) xvM (Memref.isWhole_whole _) wvM (Memref.isWhole_whole _) sM (Memref.isWhole_whole _) rM (Memref.isWhole_whole _) cc0_scratch4 cc0_scratch5 cc0_scratch6 cc0_scratch7 cc0_scratch8 (num c)) Φ) := by
  rw [k0_part21_eq_skeleton]
  unfold k0_part21_skel
  simp only [semSignalWord, semWaitWord, Prog.lift, Prog.bind_op, Prog.bind_ret, Prog.pure_eq_ret, wp_deviceId]
  iintro ⟨#HC, HR, HG, HA, HO⟩ Hk
  iapply (recv_wait m K c 13 (by decide)) $$ [HR HO]
  · isplitr; · iexact HC
    isplitl [HR]; · iexact HR
    iexact HO
  iintro ⟨HR, HO⟩
  iapply (recv_last m K c) $$ [HR HG HO]
  · isplitr; · iexact HC
    isplitl [HR]; · iexact HR
    isplitl [HG]; · iexact HG
    iexact HO
  iintro ⟨HB, HR, HO⟩
  iapply (copy_if m c (0 : Dev nD) _ (other0 c) (k0_pay44 (F := F)) rfl _ _ _ _) $$ [HB HA]
  · isplitl [HB]; · iexact HB
    iexact HA
  iintro ⟨HB, HA⟩
  iapply (copy_if m c (1 : Dev nD) _ (other1 c) (k0_pay45 (F := F)) rfl _ _ _ _) $$ [HB HA]
  · isplitl [HB]; · iexact HB
    iexact HA
  iintro ⟨HB, HA⟩
  iapply (copy_if m c (2 : Dev nD) _ (other2 c) (k0_pay46 (F := F)) rfl _ _ _ _) $$ [HB HA]
  · isplitl [HB]; · iexact HB
    iexact HA
  iintro ⟨HB, HA⟩
  iapply (copy_if m c (3 : Dev nD) _ (other3 c) (k0_pay47 (F := F)) rfl _ _ _ _) $$ [HB HA]
  · isplitl [HB]; · iexact HB
    iexact HA
  iintro ⟨HB, HA⟩
  iapply (done c)
  iapply Hk
  isplitl [HR]; · iexact HR
  isplitl [HB]; · iexact HB
  isplitl [HA]; · iexact HA
  iexact HO

/-- The blocks of devices 4 to 13 are copied. -/
theorem part22 {Φ : _ → sProp 𝕄} :
    iprop(ctx m K ∗ Rb m c ∗ Out m c (have' c 4))
      ⊢ iprop(((Rb m c ∗ Out m c (have' c 14)) -∗ Φ (Scalar.cmpi .ne (Scalar.extui (Scalar.cmpi .ne (num c) 14#32) : BitVec 32) 0#32)) -∗ WP c (k0_part22 xM (Memref.isWhole_whole _) wM (Memref.isWhole_whole _) oM (Memref.isWhole_whole _) xvM (Memref.isWhole_whole _) wvM (Memref.isWhole_whole _) sM (Memref.isWhole_whole _) rM (Memref.isWhole_whole _) cc0_scratch4 cc0_scratch5 cc0_scratch6 cc0_scratch7 cc0_scratch8 (num c) (Scalar.cmpi .ne (Scalar.extui (Scalar.cmpi .ne (num c) 4#32) : BitVec 32) 0#32)) Φ) := by
  rw [k0_part22_eq_skeleton]
  unfold k0_part22_skel
  simp only [semSignalWord, semWaitWord, Prog.lift, Prog.bind_op, Prog.bind_ret, Prog.pure_eq_ret, wp_deviceId]
  iintro ⟨#HC, HB, HA⟩ Hk
  iapply (copy_if m c (4 : Dev nD) _ (other4 c) (k0_pay48 (F := F)) rfl _ _ _ _) $$ [HB HA]
  · isplitl [HB]; · iexact HB
    iexact HA
  iintro ⟨HB, HA⟩
  iapply (copy_if m c (5 : Dev nD) _ (other5 c) (k0_pay49 (F := F)) rfl _ _ _ _) $$ [HB HA]
  · isplitl [HB]; · iexact HB
    iexact HA
  iintro ⟨HB, HA⟩
  iapply (copy_if m c (6 : Dev nD) _ (other6 c) (k0_pay50 (F := F)) rfl _ _ _ _) $$ [HB HA]
  · isplitl [HB]; · iexact HB
    iexact HA
  iintro ⟨HB, HA⟩
  iapply (copy_if m c (7 : Dev nD) _ (other7 c) (k0_pay51 (F := F)) rfl _ _ _ _) $$ [HB HA]
  · isplitl [HB]; · iexact HB
    iexact HA
  iintro ⟨HB, HA⟩
  iapply (copy_if m c (8 : Dev nD) _ (other8 c) (k0_pay52 (F := F)) rfl _ _ _ _) $$ [HB HA]
  · isplitl [HB]; · iexact HB
    iexact HA
  iintro ⟨HB, HA⟩
  iapply (copy_if m c (9 : Dev nD) _ (other9 c) (k0_pay53 (F := F)) rfl _ _ _ _) $$ [HB HA]
  · isplitl [HB]; · iexact HB
    iexact HA
  iintro ⟨HB, HA⟩
  iapply (copy_if m c (10 : Dev nD) _ (other10 c) (k0_pay54 (F := F)) rfl _ _ _ _) $$ [HB HA]
  · isplitl [HB]; · iexact HB
    iexact HA
  iintro ⟨HB, HA⟩
  iapply (copy_if m c (11 : Dev nD) _ (other11 c) (k0_pay55 (F := F)) rfl _ _ _ _) $$ [HB HA]
  · isplitl [HB]; · iexact HB
    iexact HA
  iintro ⟨HB, HA⟩
  iapply (copy_if m c (12 : Dev nD) _ (other12 c) (k0_pay56 (F := F)) rfl _ _ _ _) $$ [HB HA]
  · isplitl [HB]; · iexact HB
    iexact HA
  iintro ⟨HB, HA⟩
  iapply (copy_if m c (13 : Dev nD) _ (other13 c) (k0_pay57 (F := F)) rfl _ _ _ _) $$ [HB HA]
  · isplitl [HB]; · iexact HB
    iexact HA
  iintro ⟨HB, HA⟩
  iapply (done c)
  iapply Hk
  isplitl [HB]; · iexact HB
  iexact HA

/-- The last two blocks are copied; the transfers of blocks 0 to 7 have left. -/
theorem part23 {Φ : _ → sProp 𝕄} :
    iprop(ctx m K ∗ Rb m c ∗ Out m c (have' c 14) ∗ Sw c 0 ∗ Ow c 16 16)
      ⊢ iprop(((Rb m c ∗ Out m c (have' c 16) ∗ Sw c 8 ∗ Ow c 16 16) -∗ Φ ⟨⟩) -∗ WP c (k0_part23 xM (Memref.isWhole_whole _) wM (Memref.isWhole_whole _) oM (Memref.isWhole_whole _) xvM (Memref.isWhole_whole _) wvM (Memref.isWhole_whole _) sM (Memref.isWhole_whole _) rM (Memref.isWhole_whole _) cc0_scratch4 cc0_scratch5 cc0_scratch6 cc0_scratch7 cc0_scratch8 c (num c) (Scalar.cmpi .ne (Scalar.extui (Scalar.cmpi .ne (num c) 14#32) : BitVec 32) 0#32)) Φ) := by
  rw [k0_part23_eq_skeleton]
  unfold k0_part23_skel
  simp only [semSignalWord, semWaitWord, Prog.lift, Prog.bind_op, Prog.bind_ret, Prog.pure_eq_ret, wp_deviceId]
  iintro ⟨#HC, HB, HA, HE, HO⟩ Hk
  iapply (copy_if m c (14 : Dev nD) _ (other14 c) (k0_pay58 (F := F)) rfl _ _ _ _) $$ [HB HA]
  · isplitl [HB]; · iexact HB
    iexact HA
  iintro ⟨HB, HA⟩
  iapply (copy_if m c (15 : Dev nD) _ (other15 c) (k0_pay59 (F := F)) rfl _ _ _ _) $$ [HB HA]
  · isplitl [HB]; · iexact HB
    iexact HA
  iintro ⟨HB, HA⟩
  iapply (sent_if m K c (0 : Dev nD) _ (sent0 c) _ _ _) $$ [HE HO]
  · isplitr; · iexact HC
    isplitl [HE]; · iexact HE
    iexact HO
  iintro ⟨HE, HO⟩
  iapply (sent_if m K c (1 : Dev nD) _ (sent1 c) _ _ _) $$ [HE HO]
  · isplitr; · iexact HC
    isplitl [HE]; · iexact HE
    iexact HO
  iintro ⟨HE, HO⟩
  iapply (sent_if m K c (2 : Dev nD) _ (sent2 c) _ _ _) $$ [HE HO]
  · isplitr; · iexact HC
    isplitl [HE]; · iexact HE
    iexact HO
  iintro ⟨HE, HO⟩
  iapply (sent_if m K c (3 : Dev nD) _ (sent3 c) _ _ _) $$ [HE HO]
  · isplitr; · iexact HC
    isplitl [HE]; · iexact HE
    iexact HO
  iintro ⟨HE, HO⟩
  iapply (sent_if m K c (4 : Dev nD) _ (sent4 c) _ _ _) $$ [HE HO]
  · isplitr; · iexact HC
    isplitl [HE]; · iexact HE
    iexact HO
  iintro ⟨HE, HO⟩
  iapply (sent_if m K c (5 : Dev nD) _ (sent5 c) _ _ _) $$ [HE HO]
  · isplitr; · iexact HC
    isplitl [HE]; · iexact HE
    iexact HO
  iintro ⟨HE, HO⟩
  iapply (sent_if m K c (6 : Dev nD) _ (sent6 c) _ _ _) $$ [HE HO]
  · isplitr; · iexact HC
    isplitl [HE]; · iexact HE
    iexact HO
  iintro ⟨HE, HO⟩
  iapply (sent_if m K c (7 : Dev nD) _ (sent7 c) _ _ _) $$ [HE HO]
  · isplitr; · iexact HC
    isplitl [HE]; · iexact HE
    iexact HO
  iintro ⟨HE, HO⟩
  iapply (done c)
  iapply Hk
  isplitl [HB]; · iexact HB
  isplitl [HA]; · iexact HA
  isplitl [HE]; · iexact HE
  iexact HO

end Cert.KernelIdealProof

end
-- ==== Proof.KernelIdealBody.lean ====
module

public import proofs.«01_k».proof.Proof.KernelIdealParts

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × KK → ℕ) (c : Dev nD)

/-- One program after another. -/
theorem seq {α β : Type} {p : Prog (TpuEff nD τ sig (Elt F) Λ₀ .tc) α} {k : α → Prog (TpuEff nD τ sig (Elt F) Λ₀ .tc) β} {Φ : β → sProp 𝕄} :
    WP c p (fun a => WP c (k a) Φ) ⊢ WP c (p >>= k) Φ := by
  show _ ⊢ wp _ _ _ (p >>= k) Φ
  rw [wp_bind]

omit [FloatOps F] in
/-- When every device has been signalled only the device's own landing slot is left. -/
theorem Sg_end : Sg (F := F) c 16 ⊢ rAny c c := by
  have h : sgAt (F := F) c 16 c = rAny c c := if_pos rfl
  have h2 : Sg (F := F) c 16 ⊢ sgAt c 16 c := bigSep_elim (Finset.mem_univ c)
  rw [h] at h2; exact h2

theorem Out_mono {P P' : Dev nD → Prop} (h : ∀ i, P' i → P i) : Out m c P ⊢ Out m c P' := by
  unfold Out
  iintro ⟨%f, %hf, H⟩
  iexists f
  isplitr
  · ipureintro; exact fun i hi => hf i (h i hi)
  iexact H

theorem Sw_start : iprop(Sn m c 32 ∗ bigSep Finset.univ fun d => (atPos ER (sendCell c d) 0 ∅ 0 : sProp 𝕄)) ⊢ Sw c 0 := by
  unfold Sn Sw
  rw [← bigSep_sep']
  refine bigSep_mono fun j _ => ?_
  have h1 : snAt m c 32 j = snSent c j := if_pos (by have := j.isLt; have : nD = 16 := rfl; omega)
  have h2 : swAt (F := F) c 0 j = iprop(snSent c j ∗ atPos ER (sendCell c j) 0 ∅ 0) := if_neg (Nat.not_lt_zero _)
  rw [h1, h2]
  exact BI.Entails.refl _

/-- What a device holds when the kernel starts, beside what every device knows. -/
def before : sProp 𝕄 := iprop(xPts m c ∗ (∃ f, xvPts c f) ∗ dutyTok ER (xCell c) 0 c ∗ atPos ER (xCell c) 0 ∅ 0 ∗ Wst m c 0 0 ∗ Sg c 1 ∗ cred (tallyAt (readyCell c) () 15) ∗ atPos ER (readyCell c) 0 ∅ 0 ∗ Sn m c 0 ∗ Out m c (own c 0) ∗ Rv m c 0 ∗ (bigSep Finset.univ fun d => atPos ER (sendCell c d) 0 ∅ 0) ∗ Ow c 0 1)
/-- What it holds when the transfers of blocks `< e` have been waited for. -/
def after (e : ℕ) : sProp 𝕄 := iprop(xPay m c ∗ atPos ER (xCell c) 1 ∅ 0 ∗ Wst m c 8 8 ∗ atPos ER (readyCell c) 1 ∅ 0 ∗ atPos ER (recvCell c) 1 ∅ 0 ∗ Rb m c ∗ Out m c (have' c 16) ∗ Sw c e ∗ Ow c 16 16)

set_option maxHeartbeats 1000000 in
/-- The kernel up to the wait for the last transfer. -/
theorem part24 {Φ : _ → sProp 𝕄} :
    iprop(ctx m K ∗ before m c) ⊢ iprop((after m c 15 -∗ Φ ⟨c, num c⟩) -∗ WP c (k0_part24 xM (Memref.isWhole_whole _) wM (Memref.isWhole_whole _) oM (Memref.isWhole_whole _) xvM (Memref.isWhole_whole _) wvM (Memref.isWhole_whole _) sM (Memref.isWhole_whole _) rM (Memref.isWhole_whole _) cc0_scratch4 cc0_scratch5 cc0_scratch6 cc0_scratch7 cc0_scratch8) Φ) := by
  rw [k0_part24_eq_skeleton]
  unfold k0_part24_skel before
  simp only [Prog.lift, Prog.bind_op, Prog.bind_ret, Prog.pure_eq_ret]
  iintro ⟨#HC, HX, HXV, HXT, HXA, HW, HG, HRC, HRA, HS, HA, HR, HSA, HO⟩ Hk
  iapply (seq c)
  iapply (part1 m K c) $$ [HX HXV HXT HW]
  · isplitr; · iexact HC
    isplitl [HX]; · iexact HX
    isplitl [HXV]; · iexact HXV
    isplitl [HXT]; · iexact HXT
    iexact HW
  iintro %v1 %w1 ⟨HXC, HW⟩
  iapply (seq c)
  iapply (part2 m K c _ _ _) $$ [HG HO]
  · isplitr; · iexact HC
    isplitl [HG]; · iexact HG
    iexact HO
  iintro %v2 ⟨HG, HO⟩
  iapply (seq c)
  iapply (part3 m K c _ _) $$ [HG HO]
  · isplitr; · iexact HC
    isplitl [HG]; · iexact HG
    iexact HO
  iintro %v3 ⟨HG, HO⟩
  iapply (seq c)
  iapply (part4 m K c _ _ _) $$ [HG HO]
  · isplitr; · iexact HC
    isplitl [HG]; · iexact HG
    iexact HO
  iintro %v4 ⟨HG, HO⟩
  iapply (seq c)
  iapply (part5 m K c _ _ _ _ _ _) $$ [HG HO]
  · isplitr; · iexact HC
    isplitl [HG]; · iexact HG
    iexact HO
  iintro %v5 ⟨HG, HO⟩
  iapply (seq c)
  iapply (part6 m K c _ _) $$ [HG HO]
  · isplitr; · iexact HC
    isplitl [HG]; · iexact HG
    iexact HO
  iintro %v6 ⟨HG, HO⟩
  iapply (seq c)
  iapply (part7 m K c _) $$ [HG HO]
  · isplitr; · iexact HC
    isplitl [HG]; · iexact HG
    iexact HO
  iintro %v7 ⟨HG, HO⟩
  iapply (seq c)
  iapply (part8 m K c _ _ _) $$ [HXC HXA HW HG HO]
  · isplitr; · iexact HC
    isplitl [HXC]; · iexact HXC
    isplitl [HXA]; · iexact HXA
    isplitl [HW]; · iexact HW
    isplitl [HG]; · iexact HG
    iexact HO
  iintro ⟨HX, HXA, HW, HG, HO⟩
  iapply (seq c)
  iapply (part9 m K c _) $$ [HRC HRA HW HS HA HO]
  · isplitr; · iexact HC
    isplitl [HRC]; · iexact HRC
    isplitl [HRA]; · iexact HRA
    isplitl [HW]; · iexact HW
    isplitl [HS]; · iexact HS
    isplitl [HA]; · iexact HA
    iexact HO
  iintro ⟨HRA, HW, HS, HP, HA, HO⟩
  iapply (seq c)
  iapply (part10 m K c _) $$ [HW HS HP HA HO]
  · isplitr; · iexact HC
    isplitl [HW]; · iexact HW
    isplitl [HS]; · iexact HS
    isplitl [HP]; · iexact HP
    isplitl [HA]; · iexact HA
    iexact HO
  iintro ⟨HW, HS, HP, HA, HO⟩
  iapply (seq c)
  iapply (part11 m K c _) $$ [HW HS HP HA HO]
  · isplitr; · iexact HC
    isplitl [HW]; · iexact HW
    isplitl [HS]; · iexact HS
    isplitl [HP]; · iexact HP
    isplitl [HA]; · iexact HA
    iexact HO
  iintro ⟨HW, HS, HP, HA, HO⟩
  iapply (seq c)
  iapply (part12 m K c _) $$ [HW HS HP HA HO]
  · isplitr; · iexact HC
    isplitl [HW]; · iexact HW
    isplitl [HS]; · iexact HS
    isplitl [HP]; · iexact HP
    isplitl [HA]; · iexact HA
    iexact HO
  iintro ⟨HW, HS, HP, HA, HO⟩
  iapply (seq c)
  iapply (part13 m K c _) $$ [HW HS HP HA HO]
  · isplitr; · iexact HC
    isplitl [HW]; · iexact HW
    isplitl [HS]; · iexact HS
    isplitl [HP]; · iexact HP
    isplitl [HA]; · iexact HA
    iexact HO
  iintro ⟨HW, HS, HP, HA, HO⟩
  iapply (seq c)
  iapply (part14 m K c) $$ [HW HS HP HA HO]
  · isplitr; · iexact HC
    isplitl [HW]; · iexact HW
    isplitl [HS]; · iexact HS
    isplitl [HP]; · iexact HP
    isplitl [HA]; · iexact HA
    iexact HO
  iintro ⟨HW, HS, HP, HA, HO⟩
  iapply (seq c)
  iapply (part15 m K c) $$ [HW HS HP HA HO]
  · isplitr; · iexact HC
    isplitl [HW]; · iexact HW
    isplitl [HS]; · iexact HS
    isplitl [HP]; · iexact HP
    isplitl [HA]; · iexact HA
    iexact HO
  iintro ⟨HW, HS, HP, HA, HO⟩
  iapply (seq c)
  iapply (part16 m K c) $$ [HW HS HP HA HO]
  · isplitr; · iexact HC
    isplitl [HW]; · iexact HW
    isplitl [HS]; · iexact HS
    isplitl [HP]; · iexact HP
    isplitl [HA]; · iexact HA
    iexact HO
  iintro ⟨HW, HS, HP, HA, HO⟩
  iapply (seq c)
  iapply (part17 m K c) $$ [HS HP HA HR HO]
  · isplitr; · iexact HC
    isplitl [HS]; · iexact HS
    isplitl [HP]; · iexact HP
    isplitl [HA]; · iexact HA
    isplitl [HR]; · iexact HR
    iexact HO
  iintro ⟨HS, HA, HR, HO⟩
  iapply (seq c)
  iapply (part18 m K c _) $$ [HR HO]
  · isplitr; · iexact HC
    isplitl [HR]; · iexact HR
    iexact HO
  iintro ⟨HR, HO⟩
  iapply (seq c)
  iapply (part19 m K c _) $$ [HR HO]
  · isplitr; · iexact HC
    isplitl [HR]; · iexact HR
    iexact HO
  iintro %v19 ⟨HR, HO⟩
  iapply (seq c)
  iapply (part20 m K c _ _) $$ [HR HO]
  · isplitr; · iexact HC
    isplitl [HR]; · iexact HR
    iexact HO
  iintro ⟨HR, HO⟩
  ihave HG := (Sg_end (F := F) c) $$ HG
  ihave HA := (Out_mono m c (P' := have' c 0) fun i hi => ⟨hi.resolve_right (Nat.not_lt_zero _), i.isLt⟩) $$ HA
  iapply (seq c)
  iapply (part21 m K c) $$ [HR HG HA HO]
  · isplitr; · iexact HC
    isplitl [HR]; · iexact HR
    isplitl [HG]; · iexact HG
    isplitl [HA]; · iexact HA
    iexact HO
  iintro ⟨HR, HB, HA, HO⟩
  iapply (seq c)
  iapply (part22 m K c) $$ [HB HA]
  · isplitr; · iexact HC
    isplitl [HB]; · iexact HB
    iexact HA
  iintro ⟨HB, HA⟩
  ihave HE := (Sw_start m c) $$ [HS HSA]
  · isplitl [HS]; · iexact HS
    iexact HSA
  iapply (seq c)
  iapply (part23 m K c) $$ [HB HA HE HO]
  · isplitr; · iexact HC
    isplitl [HB]; · iexact HB
    isplitl [HA]; · iexact HA
    isplitl [HE]; · iexact HE
    iexact HO
  iintro ⟨HB, HA, HE, HO⟩
  iapply (sent_if m K c (8 : Dev nD) _ (sent8 c) _ _ _) $$ [HE HO]
  · isplitr; · iexact HC
    isplitl [HE]; · iexact HE
    iexact HO
  iintro ⟨HE, HO⟩
  iapply (sent_if m K c (9 : Dev nD) _ (sent9 c) _ _ _) $$ [HE HO]
  · isplitr; · iexact HC
    isplitl [HE]; · iexact HE
    iexact HO
  iintro ⟨HE, HO⟩
  iapply (sent_if m K c (10 : Dev nD) _ (sent10 c) _ _ _) $$ [HE HO]
  · isplitr; · iexact HC
    isplitl [HE]; · iexact HE
    iexact HO
  iintro ⟨HE, HO⟩
  iapply (sent_if m K c (11 : Dev nD) _ (sent11 c) _ _ _) $$ [HE HO]
  · isplitr; · iexact HC
    isplitl [HE]; · iexact HE
    iexact HO
  iintro ⟨HE, HO⟩
  iapply (sent_if m K c (12 : Dev nD) _ (sent12 c) _ _ _) $$ [HE HO]
  · isplitr; · iexact HC
    isplitl [HE]; · iexact HE
    iexact HO
  iintro ⟨HE, HO⟩
  iapply (sent_if m K c (13 : Dev nD) _ (sent13 c) _ _ _) $$ [HE HO]
  · isplitr; · iexact HC
    isplitl [HE]; · iexact HE
    iexact HO
  iintro ⟨HE, HO⟩
  iapply (sent_if m K c (14 : Dev nD) _ (sent14 c) _ _ _) $$ [HE HO]
  · isplitr; · iexact HC
    isplitl [HE]; · iexact HE
    iexact HO
  iintro ⟨HE, HO⟩
  iapply (done c)
  iapply Hk
  unfold after
  isplitl [HX]; · iexact HX
  isplitl [HXA]; · iexact HXA
  isplitl [HW]; · iexact HW
  isplitl [HRA]; · iexact HRA
  isplitl [HR]; · iexact HR
  isplitl [HB]; · iexact HB
  isplitl [HA]; · iexact HA
  isplitl [HE]; · iexact HE
  iexact HO

/-- The kernel. -/
theorem body {Φ : PUnit → sProp 𝕄} :
    iprop(ctx m K ∗ before m c) ⊢ iprop((after m c 16 -∗ Φ ⟨⟩) -∗ WP c (cc0_body xM (Memref.isWhole_whole _) wM (Memref.isWhole_whole _) oM (Memref.isWhole_whole _) xvM (Memref.isWhole_whole _) wvM (Memref.isWhole_whole _) sM (Memref.isWhole_whole _) rM (Memref.isWhole_whole _) cc0_scratch4 cc0_scratch5 cc0_scratch6 cc0_scratch7 cc0_scratch8) Φ) := by
  rw [cc0_body_eq_skeleton]
  unfold cc0_body_skel
  simp only [Prog.lift, Prog.bind_op, Prog.bind_ret, Prog.pure_eq_ret]
  iintro ⟨#HC, HS⟩ Hk
  iapply (seq c)
  iapply (part24 m K c) $$ [HS]
  · isplitr; · iexact HC
    iexact HS
  unfold after
  iintro ⟨HX, HXA, HW, HRA, HR, HB, HA, HE, HO⟩
  iapply (sent_if m K c (15 : Dev nD) _ (sent15 c) _ _ _) $$ [HE HO]
  · isplitr; · iexact HC
    isplitl [HE]; · iexact HE
    iexact HO
  iintro ⟨HE, HO⟩
  iapply (done c)
  iapply Hk
  isplitl [HX]; · iexact HX
  isplitl [HXA]; · iexact HXA
  isplitl [HW]; · iexact HW
  isplitl [HRA]; · iexact HRA
  isplitl [HR]; · iexact HR
  isplitl [HB]; · iexact HB
  isplitl [HA]; · iexact HA
  isplitl [HE]; · iexact HE
  iexact HO

end Cert.KernelIdealProof

end
-- ==== Proof.KernelIdealEnds.lean ====
/-
# From whole buffers to what the device holds, and back

A device starts with whole buffers. The sixteen slots of the two block buffers, and the eight column groups of `w` and of its
copy, are disjoint and cover their buffers, so a whole buffer is the conjunction of its parts. At the end every semaphore
counts zero and the parts are whole buffers again.
-/
module

public import proofs.«01_k».proof.Proof.KernelIdealBody
public import Idealize.ShloMosaic.Lib.Ring

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × KK → ℕ) (c : Dev nD)

/-! ## The parts of a buffer -/

theorem slot_sep (i j : Dev nD) (h : i ≠ j) : Disjoint (slotR i).set (slotR j).set :=
  Rect.unit_disjoint (0 : Fin 3) (by
    have : i.val ≠ j.val := fun e => h (Fin.ext e)
    show i.val + 1 ≤ j.val ∨ j.val + 1 ≤ i.val
    omega)
theorem slot_cover : Finset.univ.biUnion (fun d : Dev nD => (slotR d).set) = Finset.univ := by
  ext i
  simp only [Finset.mem_biUnion, Finset.mem_univ, true_and, iff_true]
  refine ⟨⟨(i (0 : Fin 3)).val, (i (0 : Fin 3)).isLt⟩, Rect.mem_set_unit.mpr fun a => ?_⟩
  have h := (i a).isLt
  match a, h with
  | ⟨0, _⟩, h => exact ⟨le_refl _, Nat.lt_succ_self _⟩
  | ⟨1, _⟩, h => exact ⟨Nat.zero_le _, lt_of_lt_of_eq h (Nat.zero_add _).symm⟩
  | ⟨2, _⟩, h => exact ⟨Nat.zero_le _, lt_of_lt_of_eq h (Nat.zero_add _).symm⟩
theorem chunk_sep (i j : Fin 8) (h : i ≠ j) : Disjoint (chunkR i).set (chunkR j).set :=
  Rect.unit_disjoint (1 : Fin 2) (by
    have : i.val ≠ j.val := fun e => h (Fin.ext e)
    show 256 * i.val + 256 ≤ 256 * j.val ∨ 256 * j.val + 256 ≤ 256 * i.val
    omega)
theorem chunk_cover : Finset.univ.biUnion (fun j : Fin 8 => (chunkR j).set) = Finset.univ := by
  ext i
  simp only [Finset.mem_biUnion, Finset.mem_univ, true_and, iff_true]
  have h1 : (i (1 : Fin 2)).val < 2048 := (i (1 : Fin 2)).isLt
  refine ⟨⟨(i (1 : Fin 2)).val / 256, by omega⟩, Rect.mem_set_unit.mpr fun a => ?_⟩
  have h := (i a).isLt
  match a, h with
  | ⟨0, _⟩, h => exact ⟨Nat.zero_le _, lt_of_lt_of_eq h (Nat.zero_add _).symm⟩
  | ⟨1, _⟩, h =>
    show 256 * ((i (1 : Fin 2)).val / 256) ≤ (i (1 : Fin 2)).val ∧ (i (1 : Fin 2)).val < 256 * ((i (1 : Fin 2)).val / 256) + 256
    omega

theorem sSet (d : Dev nD) : (sSlot d).view.set = (slotR d).set := (sSlot_set d).trans (View.set_slice_whole _ _)
theorem rSet (d : Dev nD) : (rSlot d).view.set = (slotR d).set := (rSlot_set d).trans (View.set_slice_whole _ _)
theorem wSet (j : Fin 8) : (wSl j).view.set = (chunkR j).set := View.set_slice_whole _ _
theorem wvSet (j : Fin 8) : (wvSl j).view.set = (chunkR j).set := View.set_slice_whole _ _

section Parts
omit [FloatOps F]

/-- The send buffer is its sixteen slots, and so is the landing buffer. -/
theorem s_split : (iprop(∃ f, ((c : Thread nD τ).loc cc0_scratch2) ↦{fullShare} f) : sProp 𝕄) ⊢ bigSep Finset.univ fun d => sAny c d := by
  iintro ⟨%f, H⟩
  iapply ((Entails.of_eq (Ring.pointsTo_blocks (fun d : Dev nD => (slotR d).set) slot_sep slot_cover f)).trans
    (bigSep_mono fun d _ => (by unfold sAny sPts; rw [sSet]; iintro H; iexists f; iexact H : _ ⊢ sAny c d)))
  iexact H
include m in
theorem s_join : (bigSep Finset.univ fun d => sAny (F := F) c d) ⊢ (iprop(∃ f, ((c : Thread nD τ).loc cc0_scratch2) ↦{fullShare} f) : sProp 𝕄) := by
  refine (bigSep_mono (Ψ := fun d => iprop(∃ f, ((c : Thread nD τ).loc cc0_scratch2) ↦[(slotR d).set]{fullShare} f)) fun d _ =>
    (by unfold sAny sPts; rw [sSet] : sAny c d ⊢ _)).trans ?_
  exact Ring.pointsTo_blocks_join_exists (Ix := Unit) (Name := ℕ) (U := UU) (Lvl := ℕ) (q := fullShare) (Val := Elt F) (ℓ := (c : Thread nD τ).loc cc0_scratch2) (fun d : Dev nD => (slotR d).set) slot_sep slot_cover (m ((c : Thread nD τ).loc cc0_scratch2))
theorem r_split : (iprop(∃ f, ((c : Thread nD τ).loc cc0_scratch3) ↦{fullShare} f) : sProp 𝕄) ⊢ bigSep Finset.univ fun d => rAny c d := by
  iintro ⟨%f, H⟩
  iapply ((Entails.of_eq (Ring.pointsTo_blocks (fun d : Dev nD => (slotR d).set) slot_sep slot_cover f)).trans
    (bigSep_mono fun d _ => (by unfold rAny rPts; rw [rSet]; iintro H; iexists f; iexact H : _ ⊢ rAny c d)))
  iexact H
include m in
theorem r_join : (bigSep Finset.univ fun d => rAny (F := F) c d) ⊢ (iprop(∃ f, ((c : Thread nD τ).loc cc0_scratch3) ↦{fullShare} f) : sProp 𝕄) := by
  refine (bigSep_mono (Ψ := fun d => iprop(∃ f, ((c : Thread nD τ).loc cc0_scratch3) ↦[(slotR d).set]{fullShare} f)) fun d _ =>
    (by unfold rAny rPts; rw [rSet] : rAny c d ⊢ _)).trans ?_
  exact Ring.pointsTo_blocks_join_exists (Ix := Unit) (Name := ℕ) (U := UU) (Lvl := ℕ) (q := fullShare) (Val := Elt F) (ℓ := (c : Thread nD τ).loc cc0_scratch3) (fun d : Dev nD => (slotR d).set) slot_sep slot_cover (m ((c : Thread nD τ).loc cc0_scratch3))
/-- The copy of `w`, likewise, is its eight column groups; and `w` itself. -/
theorem wv_split : (iprop(∃ f, ((c : Thread nD τ).loc cc0_scratch1) ↦{fullShare} f) : sProp 𝕄) ⊢ bigSep Finset.univ fun j => iprop(∃ f, wvPts c j f) := by
  iintro ⟨%f, H⟩
  iapply ((Entails.of_eq (Ring.pointsTo_blocks (fun d : Fin 8 => (chunkR d).set) chunk_sep chunk_cover f)).trans
    (bigSep_mono fun d _ => (by unfold wvPts; rw [wvSet]; iintro H; iexists f; iexact H : _ ⊢ iprop(∃ f, wvPts c d f))))
  iexact H
include m in
theorem wv_join : (bigSep Finset.univ fun j => iprop(∃ f, wvPts (F := F) c j f)) ⊢ (iprop(∃ f, ((c : Thread nD τ).loc cc0_scratch1) ↦{fullShare} f) : sProp 𝕄) := by
  refine (bigSep_mono (Ψ := fun d => iprop(∃ f, ((c : Thread nD τ).loc cc0_scratch1) ↦[(chunkR d).set]{fullShare} f)) fun d _ =>
    (by unfold wvPts; rw [wvSet] : iprop(∃ f, wvPts c d f) ⊢ _)).trans ?_
  exact Ring.pointsTo_blocks_join_exists (Ix := Unit) (Name := ℕ) (U := UU) (Lvl := ℕ) (q := fullShare) (Val := Elt F) (ℓ := (c : Thread nD τ).loc cc0_scratch1) (fun d : Fin 8 => (chunkR d).set) chunk_sep chunk_cover (m ((c : Thread nD τ).loc cc0_scratch1))
theorem w_eq : ((((c : Thread nD τ).loc main_arg1) ↦{fullShare} m ((c : Thread nD τ).loc main_arg1)) : sProp 𝕄) = bigSep Finset.univ (wPts m c) := by
  rw [Ring.pointsTo_blocks (fun d : Fin 8 => (chunkR d).set) chunk_sep chunk_cover]
  refine bigSep_congr fun j _ => ?_
  unfold wPts; rw [wSet]
theorem x_eq : xPts m c = ((((c : Thread nD τ).loc main_arg0) ↦{fullShare} m ((c : Thread nD τ).loc main_arg0)) : sProp 𝕄) := by
  unfold xPts; simp only [Memref.view_whole, View.set_whole]
theorem xv_eq (f) : xvPts (F := F) c f = ((((c : Thread nD τ).loc cc0_scratch0) ↦{fullShare} f) : sProp 𝕄) := by
  unfold xvPts; simp only [Memref.view_whole, View.set_whole]

theorem bigSep_pers {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)
/-- A conjunction of pairs, taken apart and put together. -/
theorem bs_sep {I : Type} [Fintype I] [DecidableEq I] {Φ Ψ : I → sProp 𝕄} : (bigSep Finset.univ fun i => iprop(Φ i ∗ Ψ i)) ⊢ iprop(bigSep Finset.univ Φ ∗ bigSep Finset.univ Ψ) :=
  Entails.of_eq (bigSep_sep' _ _ _)
theorem bs_pair {I : Type} [Fintype I] [DecidableEq I] {Φ Ψ : I → sProp 𝕄} : iprop(bigSep Finset.univ Φ ∗ bigSep Finset.univ Ψ) ⊢ (bigSep Finset.univ fun i => iprop(Φ i ∗ Ψ i)) :=
  Entails.of_eq (bigSep_sep' _ _ _).symm
end Parts

/-! ## At the end -/

/-- The result block: rows `256 i …` are device `i`'s block. -/
def blk (x : S4096x128.Idx) : Dev nD := ⟨(x (0 : Fin 2)).val / 256, Nat.div_lt_of_lt_mul (show (x (0 : Fin 2)).val < 256 * 16 from (x (0 : Fin 2)).isLt)⟩
def pos (x : S4096x128.Idx) : S256x128.Idx := fun a => match a with
  | ⟨0, _⟩ => (⟨(x (0 : Fin 2)).val % 256, Nat.mod_lt _ (by decide)⟩ : Fin 256)
  | ⟨1, _⟩ => (⟨(x (1 : Fin 2)).val, (x (1 : Fin 2)).isLt⟩ : Fin 128)
def outAt : (cc0_stg0_0 : Ref sig .tc).ty.Contents (Elt F) := fun x => blkOut m c (blk x) (pos x)

theorem emb_pos (x : S4096x128.Idx) : ((oM : Memref sig .tc .vmem S4096x128 .f32).access (blockR (blk x))).emb (pos x) = x := by
  funext a
  refine Fin.ext ?_
  match a with
  | ⟨0, _⟩ =>
    exact (show 256 * ((x (0 : Fin 2)).val / 256) + 1 * ((x (0 : Fin 2)).val % 256) = (x (0 : Fin 2)).val by omega)
  | ⟨1, _⟩ =>
    exact (show 0 + 1 * (x (1 : Fin 2)).val = (x (1 : Fin 2)).val by omega)

theorem out_eq (f : Buf (Elt F) ((c : Thread nD τ).loc cc0_stg0_0)) (h : ∀ i, have' c 16 i → (oM.access (blockR i)).read (Elt F) f = blkOut m c i) :
    f = outAt m c := by
  funext x
  have h1 := congrFun (h (blk x) (.inr (blk x).isLt)) (pos x)
  rw [View.read_apply, emb_pos] at h1
  exact h1

theorem Out_end : Out m c (have' c 16) ⊢ (((c : Thread nD τ).loc cc0_stg0_0) ↦{fullShare} outAt m c : sProp 𝕄) := by
  unfold Out
  iintro ⟨%f, %h, H⟩
  rw [← out_eq m c f h]
  iexact H

theorem close_at (k : KK) (R : ℕ) (hR : ∀ r, R ≤ r → (Rd (F := F) m).duties (kcell (c, k)) r = ∅) :
    iprop(ctx m K ∗ atPos ER (kcell (c, k)) R ∅ 0) ⊢ |={Set.univ}=> semVal (kcell (c, k)) 0 := by
  iintro ⟨#HC, Hat⟩
  imod (Rounds.cell_close ER (Rd m) (Set.mem_univ (K (c, k))) (fun h => h) (R := R) hR) $$ [Hat] with Hz
  · isplitr; · iapply (ctx_inv m K (c, k)); iexact HC
    iexact Hat
  imodintro
  iexact Hz
theorem close_w : iprop(ctx m K ∗ Wst m c 8 8)
    ⊢ |={Set.univ}=> iprop((bigSep Finset.univ fun j => wPay m c j) ∗ bigSep Finset.univ fun j => semVal (wCell c j) 0) := by
  refine ((bigSep_pers (Ψ := fun j => iprop(|={Set.univ}=> (wPay m c j ∗ semVal (wCell c j) 0))) fun j _ => ?_).trans (bigSep_fupd _ _)).trans (BI.fupd_mono bs_sep)
  rw [show wAt m c 8 8 j = wDone m c j from if_pos j.isLt]
  unfold wDone
  iintro ⟨#HC, H, Hat⟩
  imod (close_at m K c (kW j) 1 (duties_later m _)) $$ [Hat] with Hz
  · isplitr; · iexact HC
    iexact Hat
  imodintro
  isplitl [H]; · iexact H
  iexact Hz

theorem send_later (j : Dev nD) : ∀ r, (if j = c then 0 else 1) ≤ r → (Rd (F := F) m).duties (sendCell c j) r = ∅ := by
  intro r hr
  by_cases h : j = c
  · subst h
    rcases Nat.eq_zero_or_pos r with rfl | h0
    · exact duties_send_self m j
    · exact duties_later m _ r h0
  · rw [if_neg h] at hr
    exact duties_later m _ r hr

theorem close_s : iprop(ctx m K ∗ Sw (F := F) c 16)
    ⊢ |={Set.univ}=> iprop((bigSep Finset.univ fun j => sAny c j) ∗ bigSep Finset.univ fun j => semVal (sendCell c j) 0) := by
  refine ((bigSep_pers (Ψ := fun j => iprop(|={Set.univ}=> (sAny c j ∗ semVal (sendCell c j) 0))) fun j _ => ?_).trans (bigSep_fupd _ _)).trans (BI.fupd_mono bs_sep)
  rw [show swAt (F := F) c 16 j = iprop(sAny c j ∗ atPos ER (sendCell c j) (if j = c then 0 else 1) ∅ 0) from if_pos j.isLt]
  iintro ⟨#HC, H, Hat⟩
  imod (close_at m K c (kSend j) (if j = c then 0 else 1) (send_later m c j)) $$ [Hat] with Hz
  · isplitr; · iexact HC
    iexact Hat
  imodintro
  isplitl [H]; · iexact H
  iexact Hz

theorem Rb_any : Rb m c ⊢ bigSep Finset.univ fun j => rAny c j := by
  refine bigSep_mono fun j _ => ?_
  unfold rbAt
  by_cases h : j = c
  · rw [if_pos h, h]; exact BI.Entails.refl _
  · rw [if_neg h]
    show rHas c j (snd m j c) ⊢ rAny c j
    unfold rHas rAny
    iintro ⟨%f, -, H⟩
    iexists f
    iexact H

/-- The device's semaphores, one after another. -/
theorem sems_eq (Φ : KK → sProp 𝕄) : bigSep Finset.univ Φ = iprop((Φ kReady ∗ Φ kRecv ∗ Φ kX) ∗ (bigSep Finset.univ fun j => Φ (kW j)) ∗ bigSep Finset.univ fun d => Φ (kSend d)) := by
  rw [bigSep_univ_sum, bigSep_univ_sum]
  rw [bigSep_univ_eq_bigSepL [0, 1, 2] (by decide) (by decide) fun a : Fin 3 => Φ (.inl a)]
  rfl

/-- What the device gives back. -/
def Φ₁ : sProp 𝕄 := iprop((((c : Thread nD τ).loc main_arg0) ↦{fullShare} m ((c : Thread nD τ).loc main_arg0))
  ∗ (((c : Thread nD τ).loc main_arg1) ↦{fullShare} m ((c : Thread nD τ).loc main_arg1))
  ∗ (bigSep Finset.univ fun k : KK => semVal (kcell (c, k)) 0)
  ∗ (∃ f, ((c : Thread nD τ).loc cc0_scratch0) ↦{fullShare} f) ∗ (∃ f, ((c : Thread nD τ).loc cc0_scratch1) ↦{fullShare} f)
  ∗ (∃ f, ((c : Thread nD τ).loc cc0_scratch2) ↦{fullShare} f) ∗ (∃ f, ((c : Thread nD τ).loc cc0_scratch3) ↦{fullShare} f))

theorem wPay_split : (bigSep Finset.univ fun j => wPay m c j) ⊢ iprop((bigSep Finset.univ fun j => iprop(∃ f, wvPts c j f)) ∗ bigSep Finset.univ (wPts m c)) := by
  refine (bigSep_mono fun j _ => ?_).trans bs_sep
  show wPay m c j ⊢ iprop((∃ f, wvPts c j f) ∗ wPts m c j)
  unfold wPay
  iintro ⟨⟨%f, -, H⟩, HW⟩
  isplitl [H]; · iexists f; iexact H
  iexact HW

omit [FloatOps F] in
theorem Ow_end : Ow (F := F) c 16 16 ⊢ iprop(∃ W, owes (c : Thread nD τ) 0 W) := by
  unfold Ow; rw [owedR_done, owedB_done, add_zero]

theorem finish : iprop(ctx m K ∗ after m c 16)
    ⊢ |={Set.univ}=> iprop(Φ₁ m c ∗ (((c : Thread nD τ).loc cc0_stg0_0) ↦{fullShare} outAt m c) ∗ ∃ W, owes (c : Thread nD τ) 0 W) := by
  unfold after
  iintro ⟨#HC, HX, HXA, HW, HRA, HR, HB, HA, HE, HO⟩
  imod (close_at m K c kX 1 (duties_later m _)) $$ [HXA] with HzX
  · isplitr; · iexact HC
    iexact HXA
  imod (close_at m K c kReady 1 (duties_later m _)) $$ [HRA] with HzR
  · isplitr; · iexact HC
    iexact HRA
  imod (close_at m K c kRecv 1 (duties_later m _)) $$ [HR] with HzV
  · isplitr; · iexact HC
    iexact HR
  imod (close_w m K c) $$ [HW] with ⟨HW, HzW⟩
  · isplitr; · iexact HC
    iexact HW
  imod (close_s m K c) $$ [HE] with ⟨HE, HzS⟩
  · isplitr; · iexact HC
    iexact HE
  imodintro
  ihave HA' := (Out_end m c) $$ HA
  ihave HW' := (wPay_split m c) $$ HW
  icases HW' with ⟨HWV, HWP⟩
  ihave HB' := (Rb_any m c) $$ HB
  ihave HO' := (Ow_end (F := F) c) $$ HO
  unfold Φ₁ xPay
  rw [sems_eq, w_eq, x_eq, xv_eq]
  icases HX with ⟨HXV, HXP⟩
  isplitr [HA' HO']
  · isplitl [HXP]; · iexact HXP
    isplitl [HWP]; · iexact HWP
    isplitl [HzX HzR HzV HzW HzS]
    · isplitl [HzX HzR HzV]
      · isplitl [HzR]; · iexact HzR
        isplitl [HzV]; · iexact HzV
        iexact HzX
      isplitl [HzW]; · iexact HzW
      iexact HzS
    isplitl [HXV]; · iexists (xc m c); iexact HXV
    isplitl [HWV]; · iapply (wv_join m c); iexact HWV
    isplitl [HE]; · iapply (s_join m c); iexact HE
    iapply (r_join m c); iexact HB'
  isplitl [HA']; · iexact HA'
  iexact HO'

end Cert.KernelIdealProof

end
-- ==== Proof.KernelIdealRun.lean ====
/-
# The launch

What the launch hands each device (its cells' positions, the tokens of everything it is to pay, the credit the others owe its
cells), the pipeline's proof data, and the theorem about @main: it runs, every semaphore counts zero at the end, the arguments
are unchanged and the result is the block `outAt`.
-/
module

public import proofs.«01_k».proof.Proof.KernelIdealEnds

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × KK → ℕ) (c : Dev nD)

/-! ## What a device is handed -/

def ringCells : Finset (GSem nD τ sig) := Finset.univ.map ⟨kcell, kcell_injective⟩
/-- A token, named by its payer `p` and the cell `(e, k)` it pays. -/
def tokAt (x : Dev nD × (KK × Dev nD)) : GSem nD τ sig × ℕ × Dev nD := (kcell (x.2.2, x.2.1), 0, x.1)
theorem tokAt_injective : Function.Injective tokAt := by
  rintro ⟨p, k, e⟩ ⟨p', k', e'⟩ h
  have h1 := kcell_injective (congrArg Prod.fst h)
  have h2 : p = p' := congrArg (fun y : GSem nD τ sig × ℕ × Dev nD => y.2.2) h
  cases h1; cases h2; rfl
def ringToks : Finset (GSem nD τ sig × ℕ × Dev nD) := Finset.univ.map ⟨tokAt, tokAt_injective⟩

def u₀ : UU := (initOf (Pipeline.cells cfgs cellOf_inj) (Pipeline.launchToks cfgs cellOf_inj), initOf ringCells ringToks)

/-- The tokens a device may pay with. -/
def toks : sProp 𝕄 := bigSep Finset.univ fun ke : KK × Dev nD => dutyTok ER (kcell (ke.2, ke.1)) 0 c
def poss : sProp 𝕄 := bigSep Finset.univ fun k : KK => atPos ER (kcell (c, k)) 0 ∅ 0
def G : sProp 𝕄 :=
  iprop((bigSep Finset.univ fun k : KK => roundState ER (Rd m) (kcell (c, k)) 0)
    ∗ (bigSep Finset.univ fun k : KK => iprop(atPos ER (kcell (c, k)) 0 ∅ 0 ∗ reached ER (kcell (c, k)) 0)) ∗ toks c)
def records : sProp 𝕄 :=
  iprop((bigSep Finset.univ fun ck : Dev nD × KK => cellInv ER (Rd m) (K ck) (kcell ck))
    ∗ bigSep Finset.univ fun ck : Dev nD × KK => reached ER (kcell ck) 0)
instance records_persistent : BI.Persistent (records m K) := by unfold records; infer_instance
def G' : sProp 𝕄 := iprop(∃ K, records m K ∗ poss c ∗ toks c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : KK => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]; rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSems0_eq : (Pipeline.ownSems0 (Ix := Unit) (Name := ℕ) (U := UU) (Lvl := ℕ) (Val := Elt F) (τ := τ) osem c : sProp 𝕄)
    = bigSep Finset.univ fun k : KK => semVal (kcell (c, k)) 0 := rfl

theorem core_alloc :
    iprop(Pipeline.ownSems0 (Ix := Unit) (Name := ℕ) (U := UU) (Lvl := ℕ) (Val := Elt F) (τ := τ) osem c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) := by
  unfold G
  rw [ownSems0_eq]
  iintro ⟨Hv, Hst, Hat, Htok⟩
  imod (show iprop((bigSep Finset.univ fun k : KK => semVal (kcell (c, k)) 0) ∗ bigSep Finset.univ fun k : KK => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem ghost_intro : iprop(records m K ∗ poss c ∗ toks c) ⊢ G' m c := by
  unfold G'
  iintro H
  iexists K
  iexact H

theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × KK => iprop(∃ κ : ℕ, cellInv ER (Rd m) κ (kcell ck))),
    bigSep_congr (s := Finset.univ) (fun (c : Dev nD) _ => bigSep_sep' Finset.univ (fun k : KK => (atPos ER (kcell (c, k)) 0 ∅ 0 : sProp 𝕄)) (fun k => reached ER (kcell (c, k)) 0)),
    bigSep_sep', ← bigSep_univ_prod (fun ck : Dev nD × KK => (reached ER (kcell ck) 0 : sProp 𝕄))]
  iintro ⟨HI, ⟨Hat, #HR⟩, Htok⟩
  ihave HK := (BI.bigSep_exists_pi Finset.univ (fun (ck : Dev nD × KK) (κ : ℕ) => (cellInv ER (Rd m) κ (kcell ck) : sProp 𝕄))) $$ HI
  icases HK with ⟨%K, #HI⟩
  iapply (bigSep_pers (R := records m K) (Φ := fun c => iprop(poss c ∗ toks c)) fun c _ => ghost_intro m K c)
  isplitr
  · unfold records; isplitl; · iexact HI
    iexact HR
  · iapply (bs_pair (Φ := fun c : Dev nD => (poss c : sProp 𝕄)) (Ψ := fun c => toks c))
    isplitl [Hat]; · iexact Hat
    iexact Htok

theorem glob : (bigSep Finset.univ fun c => iprop(Pipeline.ownSems0 (Ix := Unit) (Name := ℕ) (U := UU) (Lvl := ℕ) (Val := Elt F) (τ := τ) osem c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

theorem sum_at {p : Dev nD → Prop} [DecidablePred p] {f : Dev nD → GSem nD τ sig} (hf : Function.Injective f) (n : ℕ) (c : Dev nD) :
    (∑ j : Dev nD, if p j then tallyAt (f j) () n else 0 : CellTallies nD τ sig Unit) (f c) () = if p c then n else 0 := by
  rw [Finset.sum_apply, Finsupp.finset_sum_apply, Finset.sum_eq_single c]
  · by_cases h : p c
    · rw [if_pos h, if_pos h, tallyAt_apply, if_pos ⟨rfl, rfl⟩]
    · rw [if_neg h, if_neg h]; rfl
  · intro j _ hj
    by_cases h : p j
    · rw [if_pos h, tallyAt_apply, if_neg fun h' => hj (hf h'.1.symm)]
    · rw [if_neg h]; rfl
  · exact fun h => absurd (Finset.mem_univ c) h

theorem cell_inj {sm : SemLoc sig} : Function.Injective fun a : Dev nD => (((a : Thread nD τ), sm) : GSem nD τ sig) :=
  fun a b h => Fin.ext (congrArg (fun g : GSem nD τ sig => g.1.1.val) h)

theorem owed_ready (d c : Dev nD) : O₀ d (readyCell c) () = if c ≠ d then 1 else 0 := by
  unfold O₀ owedR owedB
  rw [Pi.add_apply, Finsupp.add_apply, sum_at (f := readyCell) cell_inj 1 c,
    Nat.eq_zero_of_not_pos fun h => (sum_cells_pos (f := recvCell) h).elim fun j hj => recv_ne_ready (congrArg Prod.snd hj).symm, Nat.zero_add]
  exact if_congr (and_iff_left (Nat.zero_le _)) rfl rfl
theorem owed_recv (d c : Dev nD) : O₀ d (recvCell c) () = if c ≠ d then N else 0 := by
  unfold O₀ owedR owedB
  rw [Pi.add_apply, Finsupp.add_apply, sum_at (f := recvCell) cell_inj N c,
    Nat.eq_zero_of_not_pos fun h => (sum_cells_pos (f := readyCell) h).elim fun j hj => recv_ne_ready (congrArg Prod.snd hj), Nat.add_zero]
  exact if_congr (and_iff_left (Nat.zero_le _)) rfl rfl

theorem card_ne : ∀ c : Dev nD, (Finset.univ.filter fun d : Dev nD => c ≠ d).card = 15 := by decide
theorem sum_ne (c : Dev nD) (n : ℕ) : (∑ d : Dev nD, if c ≠ d then n else 0) = 15 * n := by
  rw [← Finset.sum_filter, Finset.sum_const, smul_eq_mul, card_ne]

theorem launch_ready :
    tallyOn (readyCell c) (launchCredit (Pipeline.owing O₀) 0 (readyCell c)) = (tallyAt (readyCell c) () 15 : CellTallies nD τ sig Unit) := by
  unfold tallyAt; refine congrArg _ (Finsupp.ext fun u => ?_); cases u
  rw [Pipeline.launchCredit_owing, Finsupp.single_eq_same, Finset.sum_congr rfl fun d _ => owed_ready d c, sum_ne]
theorem launch_recv :
    tallyOn (recvCell c) (launchCredit (Pipeline.owing O₀) 0 (recvCell c)) = (tallyAt (recvCell c) () (15 * N) : CellTallies nD τ sig Unit) := by
  unfold tallyAt; refine congrArg _ (Finsupp.ext fun u => ?_); cases u
  rw [Pipeline.launchCredit_owing, Finsupp.single_eq_same, Finset.sum_congr rfl fun d _ => owed_recv d c, sum_ne]

theorem creds : (Pipeline.launchCred O₀ c : sProp 𝕄) ⊢ iprop(cred (tallyAt (readyCell c) () 15) ∗ cred (tallyAt (recvCell c) () (15 * N))) := by
  unfold Pipeline.launchCred
  rw [bigSep_univ_at _ (SemLoc.reg readyS), launch_ready]
  refine sep_mono_right ?_
  rw [← launch_recv]
  exact bigSep_elim (Finset.mem_erase.mpr ⟨recv_ne_ready, Finset.mem_univ _⟩)

/-! ## From what is handed to the body's start -/

theorem at_c (Φ : Dev nD → sProp 𝕄) : bigSep Finset.univ Φ ⊢ Φ c := bigSep_elim (Finset.mem_univ c)

theorem bs_at {I : Type} [Fintype I] [DecidableEq I] (Φ : I → Dev nD → sProp 𝕄) :
    (bigSep Finset.univ fun i => bigSep Finset.univ (Φ i)) ⊢ bigSep Finset.univ fun i => Φ i c := bigSep_mono fun i _ => at_c c (Φ i)

/-- The tokens the device does pay with. -/
theorem toks_pay : toks (F := F) c ⊢ iprop(dutyTok ER (xCell c) 0 c ∗ (bigSep Finset.univ fun j => dutyTok ER (wCell c j) 0 c)
    ∗ (bigSep Finset.univ fun e => dutyTok ER (readyCell e) 0 c) ∗ (bigSep Finset.univ fun e => dutyTok ER (recvCell e) 0 c)
    ∗ bigSep Finset.univ fun d => dutyTok ER (sendCell c d) 0 c) := by
  unfold toks
  rw [bigSep_univ_prod, sems_eq]
  iintro ⟨⟨HR, HV, HX⟩, HW, HS⟩
  isplitl [HX]; · iapply (at_c c fun e => dutyTok ER (xCell e) 0 c); iexact HX
  isplitl [HW]
  · iapply (bs_at c fun (j : Fin 8) e => dutyTok ER (wCell e j) 0 c)
    iexact HW
  isplitl [HR]; · iexact HR
  isplitl [HV]; · iexact HV
  iapply (bs_at c fun (d : Dev nD) e => dutyTok ER (sendCell e d) 0 c)
  iexact HS

theorem dist_pos {j : Dev nD} (h : j ≠ c) : ¬ dist c j < 1 := fun hlt =>
  h (dist_inj c j c ((Nat.lt_one_iff.1 hlt).trans (dist_self c).symm))

theorem Sg_intro : iprop((bigSep Finset.univ fun j => rAny c j) ∗ bigSep Finset.univ fun j => dutyTok ER (readyCell j) 0 c) ⊢ Sg (F := F) c 1 := by
  refine bs_pair.trans (bigSep_mono fun j _ => ?_)
  show iprop(rAny c j ∗ dutyTok ER (readyCell j) 0 c) ⊢ sgAt c 1 j
  unfold sgAt
  by_cases h : j = c
  · rw [if_pos h, h]
    iintro ⟨H, -⟩
    iexact H
  · rw [if_neg h, if_neg (dist_pos c h)]

theorem Sn_intro : iprop((bigSep Finset.univ fun j => sAny c j) ∗ (bigSep Finset.univ fun j => dutyTok ER (sendCell c j) 0 c)
    ∗ bigSep Finset.univ fun j => dutyTok ER (recvCell j) 0 c) ⊢ Sn m c 0 := by
  refine ((sep_mono_right bs_pair).trans bs_pair).trans (bigSep_mono fun j _ => ?_)
  show iprop(sAny c j ∗ dutyTok ER (sendCell c j) 0 c ∗ dutyTok ER (recvCell j) 0 c) ⊢ snAt m c 0 j
  unfold snAt
  rw [if_neg (Nat.not_lt_zero _), if_neg (Nat.succ_ne_zero _)]
  unfold snRaw sTok
  by_cases h : j = c
  · rw [if_pos h]
    iintro ⟨H, -⟩
    isplitl [H]; · iexact H
    iempintro
  · rw [if_neg h]

theorem Wst_intro : iprop(bigSep Finset.univ (wPts m c) ∗ (bigSep Finset.univ fun j => iprop(∃ f, wvPts c j f))
    ∗ (bigSep Finset.univ fun j => dutyTok ER (wCell c j) 0 c) ∗ bigSep Finset.univ fun j => atPos ER (wCell c j) 0 ∅ 0) ⊢ Wst m c 0 0 := by
  refine ((sep_mono_right ((sep_mono_right bs_pair).trans bs_pair)).trans bs_pair).trans (bigSep_mono fun j _ => ?_)
  show iprop(wPts m c j ∗ (∃ f, wvPts c j f) ∗ dutyTok ER (wCell c j) 0 c ∗ atPos ER (wCell c j) 0 ∅ 0) ⊢ wAt m c 0 0 j
  unfold wAt
  rw [if_neg (Nat.not_lt_zero _), if_neg (Nat.not_lt_zero _)]
  unfold wPre
  exact BI.Entails.refl _

theorem Rv_intro : iprop(atPos ER (recvCell c) 0 ∅ 0 ∗ cred (tallyAt (recvCell c) () (15 * N))) ⊢ Rv m c 0 := by
  unfold Rv
  rw [Nat.zero_mul, Nat.sub_zero]
  iintro ⟨H, HC⟩
  iexists (∅ : Finset (Dev nD))
  isplitr; · ipureintro; exact Finset.empty_subset _
  isplitl [H]; · iexact H
  isplitl [HC]; · iexact HC
  rw [bigSep_empty]
  iempintro

theorem Out_intro (f : Buf (Elt F) ((c : Thread nD τ).loc cc0_stg0_0)) : (((c : Thread nD τ).loc cc0_stg0_0) ↦{fullShare} f : sProp 𝕄) ⊢ Out m c (own c 0) := by
  unfold Out
  iintro H
  iexists f
  isplitr; · ipureintro; exact fun i h => absurd h.2 (Nat.not_lt_zero _)
  iexact H

/-! ## The pipeline's proof data -/

def scr : sProp 𝕄 := iprop((∃ f, ((c : Thread nD τ).loc cc0_scratch0) ↦{fullShare} f) ∗ (∃ f, ((c : Thread nD τ).loc cc0_scratch1) ↦{fullShare} f)
  ∗ (∃ f, ((c : Thread nD τ).loc cc0_scratch2) ↦{fullShare} f) ∗ (∃ f, ((c : Thread nD τ).loc cc0_scratch3) ↦{fullShare} f))

def args : sProp 𝕄 := iprop((((c : Thread nD τ).loc main_arg0) ↦{fullShare} m ((c : Thread nD τ).loc main_arg0))
  ∗ (((c : Thread nD τ).loc main_arg1) ↦{fullShare} m ((c : Thread nD τ).loc main_arg1)))

def start : sProp 𝕄 := iprop(G' m c ∗ levAts L lv ∗ cred (tallyAt (readyCell c) () 15) ∗ cred (tallyAt (recvCell c) () (15 * N)) ∗ args m c)

def Φ₀ : sProp 𝕄 := iprop(start m c ∗ scr c)

theorem before_intro (f : Buf (Elt F) ((c : Thread nD τ).loc cc0_stg0_0)) :
    iprop((poss c ∗ toks c) ∗ (cred (tallyAt (readyCell c) () 15) ∗ cred (tallyAt (recvCell c) () (15 * N)) ∗ args m c) ∗ scr c
      ∗ (((c : Thread nD τ).loc cc0_stg0_0) ↦{fullShare} f) ∗ Ow c 0 0) ⊢ before m c := by
  unfold poss args scr
  rw [sems_eq, w_eq, ← x_eq]
  iintro ⟨⟨HP, HT⟩, ⟨Hc1, Hc2, HA⟩, HS, HO, HOw⟩
  ihave HT' := (toks_pay c) $$ HT
  icases HT' with ⟨HTX, HTW, HTR, HTV, HTS⟩
  icases HP with ⟨⟨HPR, HPV, HPX⟩, HPW, HPS⟩
  icases HA with ⟨HX, HW⟩
  icases HS with ⟨⟨%f0, H0⟩, H1, H2, H3⟩
  ihave H1' := (wv_split c) $$ H1
  ihave H2' := (s_split c) $$ H2
  ihave H3' := (r_split c) $$ H3
  unfold before
  isplitl [HX]; · iexact HX
  isplitl [H0]; · iexists f0; iapply (Entails.of_eq (xv_eq c f0).symm); iexact H0
  isplitl [HTX]; · iexact HTX
  isplitl [HPX]; · iexact HPX
  isplitl [HW H1' HTW HPW]
  · iapply (Wst_intro m c)
    isplitl [HW]; · iexact HW
    isplitl [H1']; · iexact H1'
    isplitl [HTW]; · iexact HTW
    iexact HPW
  isplitl [H3' HTR]
  · iapply (Sg_intro c)
    isplitl [H3']; · iexact H3'
    iexact HTR
  isplitl [Hc1]; · iexact Hc1
  isplitl [HPR]; · iexact HPR
  isplitl [H2' HTS HTV]
  · iapply (Sn_intro m c)
    isplitl [H2']; · iexact H2'
    isplitl [HTS]; · iexact HTS
    iexact HTV
  isplitl [HO]; · iapply (Out_intro m c f); iexact HO
  isplitl [HPV Hc2]
  · iapply (Rv_intro m c)
    isplitl [HPV]; · iexact HPV
    iexact Hc2
  isplitl [HPS]; · iexact HPS
  iapply (Ow_start c); iexact HOw

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem cfg0_N : cfg0.N = 1 := by decide
def t₀ : Fin cfg0.N := ⟨0, by rw [cfg0_N]; decide⟩
theorem fin_N (t : Fin cfg0.N) : t = t₀ := by obtain ⟨t, ht⟩ := t; have := cfg0_N; exact Fin.ext (by simp only [t₀]; omega)

omit [FloatOps F] in
theorem bigSep_W (Φ : Fin cfg0.W → sProp 𝕄) : bigSep Finset.univ Φ = iprop(Φ (0 : Fin 1)) := bigSep_W0 Φ
omit [FloatOps F] in
theorem owns_whole_eq (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

def stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre : sProp 𝕄 :=
  iprop(Φ₀ m c ∗ (dats m ρ 0 c).owesAt () t₀.castSucc ∗ (∃ d, stg c cc0_stg0_0 ((dats m ρ 0 c).before (0 : Fin 1) t₀ d)))
def bodyPost : sProp 𝕄 :=
  iprop(Φ₁ m c ∗ (dats m ρ 0 c).owesAt () t₀.succ ∗ stg c cc0_stg0_0 (outAt m c))

theorem ctx_intro : iprop(records m K ∗ levAts L lv) ⊢ ctx m K := by
  unfold records ctx
  iintro ⟨⟨#H1, #H2⟩, #H3⟩
  isplitr; · iexact H1
  isplitr; · iexact H2
  iexact H3

theorem sound_body :
    bodyPre m ρ c ⊢ WP c (cc0_body xM (Memref.isWhole_whole _) wM (Memref.isWhole_whole _) oM (Memref.isWhole_whole _) xvM (Memref.isWhole_whole _) wvM (Memref.isWhole_whole _)
      sM (Memref.isWhole_whole _) rM (Memref.isWhole_whole _) cc0_scratch4 cc0_scratch5 cc0_scratch6 cc0_scratch7 cc0_scratch8) (fun _ => bodyPost m ρ c) := by
  refine BI.Entails.trans ?_ (wp_fupd frame (wpE (defs₀ (F := F)) 𝒱₀ (c : Thread nD τ) none) Set.univ _ _)
  show bodyPre m ρ c ⊢ WP c (cc0_body xM (Memref.isWhole_whole _) wM (Memref.isWhole_whole _) oM (Memref.isWhole_whole _) xvM (Memref.isWhole_whole _) wvM (Memref.isWhole_whole _)
      sM (Memref.isWhole_whole _) rM (Memref.isWhole_whole _) cc0_scratch4 cc0_scratch5 cc0_scratch6 cc0_scratch7 cc0_scratch8) (fun _ => iprop(|={Set.univ}=> bodyPost m ρ c))
  unfold bodyPre Φ₀ start G' stg Dat.owesAt Pipeline.owesWithin
  rw [show (dats m ρ 0 c).owed t₀.castSucc = owedR c 0 + owedB c 0 from rfl]
  iintro ⟨⟨⟨⟨%K, #HK, HP, HT⟩, #Hlev, Hc⟩, Hscr⟩, ⟨%W, -, HO⟩, ⟨%d, %f, -, Hf⟩⟩
  iapply (body m K c (Φ := fun _ => iprop(|={Set.univ}=> bodyPost m ρ c))) $$ [HP HT Hc Hscr HO Hf]
  · isplitr
    · iapply (ctx_intro m K)
      isplitr; · iexact HK
      iexact Hlev
    · iapply (before_intro m c f)
      isplitl [HP HT]
      · isplitl [HP] <;> iassumption
      isplitl [Hc]; · iexact Hc
      isplitl [Hscr]; · iexact Hscr
      isplitl [Hf]; · iexact Hf
      unfold Ow
      iexists W
      iexact HO
  iintro HA
  imod (finish m K c) $$ [HA] with ⟨H1, Ho, ⟨%W', HO⟩⟩
  · isplitr
    · iapply (ctx_intro m K)
      isplitr; · iexact HK
      iexact Hlev
    iexact HA
  imodintro
  unfold bodyPost stg Dat.owesAt Pipeline.owesWithin
  rw [show (dats m ρ 0 c).owed t₀.succ = 0 from rfl]
  isplitl [H1]; · iexact H1
  isplitl [HO]
  · iexists W'
    isplitr; · ipureintro; exact fun _ _ => Or.inl trivial
    iexact HO
  iexists (outAt m c)
  isplitr; · ipureintro; rfl
  iexact Ho

theorem body_obligation (c : Dev nD) : BodyObligation (dats (F := F) m ρ 0 c) (defs₀ (F := F)) 𝒱₀ () Set.univ := fun t => by
  rw [fin_N t, bigSep_W, bigSep_W]
  simp only [owns_whole_eq]
  exact sound_body m ρ c

/-! ## The theorem's side conditions -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ unscopedSems0 c ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨HA, -, Hlev, Hcr, -, HG⟩
  ihave Hc := (creds (F := F) c) $$ Hcr
  icases Hc with ⟨H1, HN⟩
  imodintro
  unfold start args
  isplitl
  · isplitl [HG]; · iexact HG
    isplitl [Hlev]; · iexact Hlev
    isplitl [H1]; · iexact H1
    isplitl [HN]; · iexact HN
    iexact HA
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scr
  iintro ⟨Hs, -, Hr⟩
  isplitl [Hs]; · iexact Hs
  iexact Hr

theorem phi1_exit (c : Dev nD) :
    (dats m ρ 0 c).Φ (Fin.last cfg0.N) ⊢ iprop(args m c ∗ Pipeline.ownSems0 osem c ∗ Pipeline.scopedRest cfg0.spec c) := by
  rw [show (dats m ρ 0 c).Φ (Fin.last cfg0.N) = Φ₁ m c from rfl, scopedRest0_eq, ownSems0_eq]
  unfold Φ₁ args
  iintro ⟨H0, H1, Hz, Hr⟩
  isplitl [H0 H1]
  · isplitl [H0] <;> iassumption
  isplitl [Hz]; · iexact Hz
  iexact Hr

omit [FloatOps F] in
theorem mayWait_stage (c : Dev nD) (q : DmaSem sig) (hq : SemLoc.dma q ≠ .dma recvS) (O : CellTallies nD τ sig Unit) (hO : O = O₀ c ∨ O = 0) :
    (levAts L lv : sProp 𝕄) ⊢ MayWait (c : Thread nD τ) (.dma q) () O := by
  rcases hO with rfl | rfl
  · exact mayWait_low c (.dma q) hq (fun h => by cases h) 0 0
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w; fin_cases s <;> decide) _ (by
      rcases t with ⟨_ | _, ht⟩
      · exact Or.inl rfl
      · exact Or.inr rfl)

omit [FloatOps F] in
theorem args_read (s' : Phys nD τ sig (Elt F)) : iprop(args m c ∗ emp ∗ SI s') ⊢ |={Set.univ}=> iprop(⌜s'.mem.mem ((c : Thread nD τ).loc main_arg0) = m ((c : Thread nD τ).loc main_arg0)
    ∧ s'.mem.mem ((c : Thread nD τ).loc main_arg1) = m ((c : Thread nD τ).loc main_arg1)⌝ ∗ (SI s' : sProp 𝕄)) := by
  unfold args
  iintro ⟨⟨H0, H1⟩, -, HSI⟩
  ihave H := (persistent_entails_right (SI_pointsTo_agree (st := s') (ℓ := (c : Thread nD τ).loc main_arg0) (I := Finset.univ) (q := fullShare) (f := m ((c : Thread nD τ).loc main_arg0)))) $$ [HSI H0]
  · isplitl [HSI] <;> iassumption
  icases H with ⟨%h0, HSI, H0⟩
  ihave H := (persistent_entails_right (SI_pointsTo_agree (st := s') (ℓ := (c : Thread nD τ).loc main_arg1) (I := Finset.univ) (q := fullShare) (f := m ((c : Thread nD τ).loc main_arg1)))) $$ [HSI H1]
  · isplitl [HSI] <;> iassumption
  icases H with ⟨%h1, HSI, H1⟩
  imodintro
  isplitr
  · ipureintro; exact ⟨funext fun i => h0 i (Finset.mem_univ i), funext fun i => h1 i (Finset.mem_univ i)⟩
  iexact HSI

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg0) = m ((c : Thread nD τ).loc main_arg0)
    ∧ r.2.mem ((c : Thread nD τ).loc main_arg1) = m ((c : Thread nD τ).loc main_arg1)

/-- For any float values and any memory with zero counters, every weakly fair execution of @main on the sixteen devices
    terminates; at the end every device's result is the block computed here, its arguments are unchanged, and every semaphore
    counts zero. -/
theorem run_main : θ_run defs (onTc (τ := τ) (main (F := F))) (s₀ m ρ) (fun r => QC m ρ r ∧ r.2.sem = fun _ => 0) :=
  Pipeline.θ_run_region_owing_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := args m) (Z := fun _ => iprop(emp))
    (hX := start_intro m ρ) (hin := phi0_intro m ρ) (hout := phi1_exit m ρ)
    (QY := fun c s => s.mem ((c : Thread nD τ).loc main_arg0) = m ((c : Thread nD τ).loc main_arg0) ∧ s.mem ((c : Thread nD τ).loc main_arg1) = m ((c : Thread nD τ).loc main_arg1))
    (hY := fun c s' => args_read m c s')
    (hQ := fun _ h hs => ⟨fun c => ⟨fun w => (h c).1 w, (h c).2.2⟩, sem_eq_zero_of_scoped (by decide) hs⟩)

end Cert.KernelIdealProof

end
-- ==== Proof.KernelIdealValue.lean ====
/-
# The value

At the extended reals, a change of format changes nothing and the matrix product is the sum. So the block device `i` computes
for device `c` is rows `256 i …`, columns `128 c …` of `relu (x · w)`, and what device `c` ends with is columns `128 c …` of it.
-/
module

public import proofs.«01_k».proof.Proof.KernelIdealRun
public import proofs.«01_k».proof.Proof.Gen.KernelIdeal.Points
public import Idealize.ShloMosaic.Lib.MatmulPlain
public import Idealize.ShloMosaic.Lib.Layout
public import Idealize.ShloMosaic.PureOps.Ideal

@[expose] public section

set_option maxRecDepth 16384

noncomputable section

namespace Cert.KernelIdealProof

open Cert.KernelIdeal Cert.KernelIdeal.Gen

open Idealize.ShloMosaic
open Idealize.ShloMosaic.TcCoe
open Idealize.ShloMosaic.ValueIdx
open scoped BigOperators

section Final
variable {F : FTy → Type} [FloatOps F]
variable (m : (ℓ : Loc nD τ sig) → Buf (Elt F) ℓ) (ρ : Dev nD → PrngReg)

theorem finalA_blk (c : Dev nD) : (win0_0.blk (0 : Fin 1)).view.read (Elt F) (finalA m ρ c (0 : Fin 1)) = outAt m c := by
  unfold finalA
  rw [show cfg0.N = ((0 : Fin 1) : Fin cfg0.N).val + 1 from rfl, (dats m ρ 0 c).arrAt_succ (0 : Fin 1) (0 : Fin 1)]
  rw [show (cfg0.win (0 : Fin 1)).flush (0 : Fin 1) = true from flush0_0 _, if_pos rfl]
  exact View.read_write_univ _ _

/-- The result array ends as the block. -/
theorem finalA_o (c : Dev nD) : finalA m ρ c (0 : Fin 1) = outAt m c := by
  have hz : (fun a => (win0_0.index (0 : Fin 1)) a * main_v1.ty.shape.size a) = fun _ => 0 := funext fun a => Nat.zero_mul _
  have hr := fun f => Memref.read_access_unit_zero (Elt F) main_v1 hz (fun a => by rw [congrFun hz a, Nat.zero_add]) f
  exact (hr (finalA m ρ c (0 : Fin 1))).symm.trans (finalA_blk m ρ c)
end Final

/-! ## At the extended reals -/

variable (m : (ℓ : Loc nD τ sig) → Buf (Elt Ideal) ℓ)

/-- `relu (x · w)` at row `r`, column `l`. -/
def relu_mm (x : FVec Ideal ⟨2, ![4096, 4096]⟩ .f32) (w : FVec Ideal ⟨2, ![4096, 2048]⟩ .f32) (r : Fin 4096) (l : Fin 2048) : Ideal .f32 :=
  max (∑ k : Fin 4096, x (ix2 r k) * w (ix2 k l)) 0

theorem dot_plain : dot_S256x4096_S4096x256_S256x256_1_0_0_1_n_n = DotDims.plain 256 4096 256 := rfl

theorem pay2_apply (x : Vec Ideal S256x4096 .f32) (w : Vec Ideal S4096x256 .f32) (r : Fin 256) (l : Fin 256) :
    k0_pay2 x w (ix2 r l) = max (∑ k : Fin 4096, x (ix2 r k) * w (ix2 k l)) 0 := by
  show max (FloatOps.matmul dot_S256x4096_S4096x256_S256x256_1_0_0_1_n_n none (k0_pay1 x) (truncf .bf16 w bitsLt_bf16_f32) (constant S256x256 .f32 0x00000000#32) (ix2 r l))
    (Ideal.ofBits .f32 0x00000000#32) = _
  rw [dot_plain, Ideal.matmul_plain_apply, Ideal.ofBits_zero_f32]
  show max (Ideal.ofBits .f32 0x00000000#32 + _) 0 = _
  rw [Ideal.ofBits_zero_f32, zero_add]
  rfl

/-- Device `c`'s rows of `x`. -/
def xA (c : Dev nD) : FVec Ideal S256x4096 .f32 := m ((c : Thread nD τ).loc main_arg0)

/-- Device `c`'s `w`. -/
def wA (c : Dev nD) : FVec Ideal S4096x2048 .f32 := m ((c : Thread nD τ).loc main_arg1)

theorem wc_apply (c : Dev nD) (j : Fin 8) (k : Fin 4096) (l : Fin 256) :
    wc m c j (ix2 k l) = wA m c (ix2 k (⟨256 * j.val + l.val, by omega⟩ : Fin 2048)) := by
  unfold wc
  rw [View.read_apply]
  show wA m c _ = _
  refine congrArg _ (funext fun a => Fin.ext ?_)
  match a with
  | ⟨0, _⟩ => exact (show 0 + 1 * k.val = k.val by omega)
  | ⟨1, _⟩ => exact (show 256 * j.val + 1 * l.val = 256 * j.val + l.val by omega)

/-- The block device `i` computes for device `c`. -/
theorem sub_apply (i c : Dev nD) (r : Fin 256) (l : Fin 128) :
    sub m i c (ix2 r l) = max (∑ k : Fin 4096, xA m i (ix2 r k)
      * wA m i (ix2 k (⟨128 * c.val + l.val, by have : c.val < 16 := c.isLt; omega⟩ : Fin 2048))) (0 : Ideal .f32) := by
  have hc : c.val < 16 := c.isLt
  unfold sub
  by_cases h : c.val % 2 = 0
  · rw [if_pos h]
    have e : k0_pay3 (xc m i) (wc m i (half c)) (ix2 r l) = k0_pay2 (xc m i) (wc m i (half c)) (ix2 r (⟨l.val, by omega⟩ : Fin 256)) := by
      show k0_pay2 (xc m i) (wc m i (half c)) _ = _
      refine congrArg _ (funext fun a => Fin.ext ?_)
      match a with
      | ⟨0, _⟩ => exact (show 0 + r.val = r.val by omega)
      | ⟨1, _⟩ => exact (show 0 + l.val = l.val by omega)
    rw [e, pay2_apply]
    refine congrArg (fun s => max s (0 : Ideal .f32)) (Finset.sum_congr rfl fun k _ => ?_)
    rw [wc_apply]
    refine congrArg (fun y : Fin 2048 => xA m i (ix2 r k) * wA m i (ix2 k y)) (Fin.ext ?_)
    show 256 * (c.val / 2) + l.val = 128 * c.val + l.val
    omega
  · rw [if_neg h]
    have e : k0_pay6 (k0_pay2 (xc m i) (wc m i (half c))) (ix2 r l) = k0_pay2 (xc m i) (wc m i (half c)) (ix2 r (⟨128 + l.val, by omega⟩ : Fin 256)) := by
      show k0_pay2 (xc m i) (wc m i (half c)) _ = _
      refine congrArg _ (funext fun a => Fin.ext ?_)
      match a with
      | ⟨0, _⟩ => exact (show 0 + r.val = r.val by omega)
      | ⟨1, _⟩ => rfl
    rw [e, pay2_apply]
    refine congrArg (fun s => max s (0 : Ideal .f32)) (Finset.sum_congr rfl fun k _ => ?_)
    rw [wc_apply]
    refine congrArg (fun y : Fin 2048 => xA m i (ix2 r k) * wA m i (ix2 k y)) (Fin.ext ?_)
    show 256 * (c.val / 2) + (128 + l.val) = 128 * c.val + l.val
    omega

/-- Sending a block changes none of its values. -/
theorem blkOut_eq (c i : Dev nD) : blkOut m c i = sub m i c := by
  unfold blkOut
  by_cases h : i = c
  · rw [if_pos h, h]
  · rw [if_neg h]; rfl

variable (x : FVec Ideal ⟨2, ![4096, 4096]⟩ .f32) (w : FVec Ideal ⟨2, ![4096, 2048]⟩ .f32)

/-- The whole result. -/
def result : FVec Ideal ⟨2, ![4096, 2048]⟩ .f32 := fun y => relu_mm x w (y (0 : Fin 2)) (y (1 : Fin 2))

theorem outAt_eq (hx : ∀ c : Dev nD, m ((c : Thread nD τ).loc main_arg0) = Layout.block ⟨2, ![256, 4096]⟩ ⟨2, ![4096, 4096]⟩ 0 16 c x)
    (hw : ∀ c : Dev nD, m ((c : Thread nD τ).loc main_arg1) = w) (c : Dev nD) :
    outAt m c = Layout.block ⟨2, ![4096, 128]⟩ ⟨2, ![4096, 2048]⟩ 1 16 c (result x w) := by
  funext y
  have hc : c.val < 16 := c.isLt
  have hy0 : (y (0 : Fin 2)).val < 4096 := (y (0 : Fin 2)).isLt
  have hy1 : (y (1 : Fin 2)).val < 128 := (y (1 : Fin 2)).isLt
  unfold outAt
  rw [blkOut_eq, show pos y = ix2 (⟨(y (0 : Fin 2)).val % 256, Nat.mod_lt _ (by decide)⟩ : Fin 256) (⟨(y (1 : Fin 2)).val, hy1⟩ : Fin 128) from
    funext fun a => match a with
      | ⟨0, _⟩ => rfl
      | ⟨1, _⟩ => rfl, sub_apply, show xA m (blk y) = _ from hx _, show wA m (blk y) = _ from hw _]
  show _ = relu_mm x w _ _
  unfold relu_mm
  refine congrArg (fun s => max s (0 : Ideal .f32)) (Finset.sum_congr rfl fun k _ => ?_)
  refine congrArg₂ (fun a b : Ideal .f32 => a * b) (congrArg x (funext fun a => Fin.ext ?_)) (congrArg w (funext fun a => Fin.ext ?_))
  · match a with
    | ⟨0, _⟩ => exact (show (y (0 : Fin 2)).val / 256 * 256 + (y (0 : Fin 2)).val % 256 = (y (0 : Fin 2)).val by omega)
    | ⟨1, _⟩ => rfl
  · match a with
    | ⟨0, _⟩ => rfl
    | ⟨1, _⟩ => exact (show 128 * c.val + (y (1 : Fin 2)).val = c.val * 128 + (y (1 : Fin 2)).val by omega)

end Cert.KernelIdealProof

end
-- ==== Proof.KernelIdealClaims.lean ====
/-
# The ideal kernel and the reference

The reference's result is `relu (x · w)` over the extended reals. The ideal kernel's result on device `c` is columns `128 c …`
of it.
-/
module

public import proofs.«01_k».proof.Defs
public import proofs.«01_k».proof.Proof.KernelIdealValue
public import proofs.«01_k».proof.Proof.Gen.ReferenceIdeal.Run
public import Idealize.ShloMosaic.Lib.StackMember
public import Idealize.ShloMosaic.Lib.Quiescent

@[expose] public section

set_option maxRecDepth 16384

noncomputable section

namespace Cert.KernelIdealProof

open Idealize.ShloMosaic Idealize.SL.Sem
open Idealize.ShloMosaic.ValueIdx

/-- What the reference computes. -/
def refTerm (x : FVec Ideal ⟨2, ![4096, 4096]⟩ .f32) (w : FVec Ideal ⟨2, ![4096, 2048]⟩ .f32) : FVec Ideal ⟨2, ![4096, 2048]⟩ .f32 :=
  maximumf (Host.dotGeneral Cert.ReferenceIdeal.dot_S4096x4096_S4096x2048_S4096x2048_1_0_0_1_n_n none x w)
    (broadcastInDim Cert.ReferenceIdeal.S4096x2048 ![] Cert.ReferenceIdeal.Gen.bcast_S_S4096x2048 (constant Cert.ReferenceIdeal.S_ .f32 0x00000000#32))

/-- The reference's term is `relu (x · w)`. -/
theorem refTerm_eq (x : FVec Ideal ⟨2, ![4096, 4096]⟩ .f32) (w : FVec Ideal ⟨2, ![4096, 2048]⟩ .f32) : refTerm x w = result x w := by
  funext y
  have hy : y = ix2 (y (0 : Fin 2) : Fin 4096) (y (1 : Fin 2) : Fin 2048) := funext fun a => match a with
    | ⟨0, _⟩ => rfl
    | ⟨1, _⟩ => rfl
  show max (Host.dotGeneral (DotDims.plain 4096 4096 2048) none x w y) (Ideal.ofBits .f32 0x00000000#32) = relu_mm x w _ _
  unfold relu_mm
  rw [Ideal.ofBits_zero_f32]
  refine congrArg (fun s => max s (0 : Ideal .f32)) ?_
  exact (congrArg (Host.dotGeneral (DotDims.plain 4096 4096 2048) none x w) hy).trans (StackMember.dotGeneral_plain_apply none x w _ _)

/-- The ideal kernel runs, leaves its arguments and ends with every counter at zero. -/
theorem frame : Cert.quiescent_KernelIdeal := by
  intro m g _
  exact (θ_run _ _ _).mono (fun _ h => ⟨fun c => (h.1 c).2, h.2⟩) (run_main (F := Ideal) m g)

/-- So does the reference. -/
theorem frame_ref : Cert.quiescent_ReferenceIdeal := by
  intro m g _
  exact (θ_run _ _ _).mono (fun r h => ⟨fun c => (h c).2, sem_eq_zero_of_no_sems (by decide) r.2⟩)
    (Cert.ReferenceIdeal.Value.run (F := Ideal) m g)

/-- On the same whole arrays, device `c`'s result is columns `128 c …` of the reference's. -/
theorem algebraic : Cert.algebraic_KernelIdeal_ReferenceIdeal := by
  intro m g m' g' _ hagree
  refine ⟨refTerm (m' (((0 : Dev Cert.ReferenceIdeal.nD).tc : Thread _ Cert.ReferenceIdeal.τ).loc Cert.ReferenceIdeal.main_arg0))
    (m' (((0 : Dev Cert.ReferenceIdeal.nD).tc : Thread _ Cert.ReferenceIdeal.τ).loc Cert.ReferenceIdeal.main_arg1)), ?_, ?_⟩
  · refine (θ_run _ _ _).mono (fun _ h c => ⟨((h.1 c).1 (0 : Fin 1)).trans ?_, (h.1 c).2⟩) (run_main (F := Ideal) m g)
    rw [refTerm_eq]
    exact (finalA_o m g c).trans (outAt_eq m _ _ (fun d => (hagree d).1) (fun d => (hagree d).2) c)
  · exact (θ_run _ _ _).mono (fun _ h => h 0) (Cert.ReferenceIdeal.Value.run (F := Ideal) m' g')

end Cert.KernelIdealProof

end
-- ==== Proof.KernelClaims.lean ====
/-
# The kernel's frame

The kernel runs, leaves its arguments and ends with every counter at zero.
-/
module

public import proofs.«01_k».proof.Defs
public import proofs.«01_k».proof.Proof.KernelRun

@[expose] public section

set_option maxRecDepth 16384

noncomputable section

namespace Cert.KernelProof

open Idealize.ShloMosaic Idealize.SL.Sem

/-- The kernel runs, leaves its arguments and ends with every counter at zero. -/
theorem frame : Cert.quiescent_Kernel := by
  intro m g _
  exact (θ_run _ _ _).mono (fun _ h => ⟨fun c => (h.1 c).2, h.2⟩) (run_main (F := Bits) m g)

end Cert.KernelProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import proofs.«01_k».proof.Proof.Gen.ReferenceIdeal.Run
public import proofs.«01_k».proof.Proof.KernelIdealClaims
public import proofs.«01_k».proof.Proof.KernelClaims

@[expose] public section

noncomputable section

namespace Cert.Proof

open Idealize.ShloMosaic Idealize.SL.Sem Cert.Kernel

/-- All five claims. -/
theorem claim : Cert.Claim := ⟨Cert.Kernel.Gen.facts, Cert.KernelIdeal.Gen.facts, Cert.ReferenceIdeal.Gen.facts,
  Cert.KernelProof.frame, Cert.KernelIdealProof.frame, Cert.KernelIdealProof.frame_ref, trivial, Cert.KernelIdealProof.algebraic⟩

end Cert.Proof

end
